-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x4608 : Shape := ⟨3, ![128, 1, 4608]⟩
abbrev S32000x2304 : Shape := ⟨2, ![32000, 2304]⟩
abbrev S32000x144 : Shape := ⟨2, ![32000, 144]⟩
abbrev S128x144x2x16 : Shape := ⟨4, ![128, 144, 2, 16]⟩
abbrev S128x144x16x2 : Shape := ⟨4, ![128, 144, 16, 2]⟩
abbrev S128x4608 : Shape := ⟨2, ![128, 4608]⟩
abbrev S144x32000 : Shape := ⟨2, ![144, 32000]⟩
abbrev S128x1 : Shape := ⟨2, ![128, 1]⟩
abbrev S256x2304 : Shape := ⟨2, ![256, 2304]⟩
abbrev S144x256 : Shape := ⟨2, ![144, 256]⟩
abbrev S128x128 : Shape := ⟨2, ![128, 128]⟩
abbrev S128x256 : Shape := ⟨2, ![128, 256]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S8x256 : Shape := ⟨2, ![8, 256]⟩
abbrev S16x256 : Shape := ⟨2, ![16, 256]⟩
abbrev S128 : Shape := ⟨1, ![128]⟩

abbrev nBuf : Space → Nat
  | .hbm => 12
  | .vmem => 13
  | .smem => 0
  | _ => 0

abbrev bufTy : (tb : Table) → Fin (tcTables nBuf tb) → BufTy
  | .hbm, ⟨0, _⟩ => ⟨S128x1x4608, .bf16⟩
  | .hbm, ⟨1, _⟩ => ⟨S32000x2304, .i8⟩
  | .hbm, ⟨2, _⟩ => ⟨S32000x144, .bf16⟩
  | .hbm, ⟨3, _⟩ => ⟨S32000x144, .bf16⟩
  | .hbm, ⟨4, _⟩ => ⟨S128x144x2x16, .bf16⟩
  | .hbm, ⟨5, _⟩ => ⟨S128x144x16x2, .bf16⟩
  | .hbm, ⟨6, _⟩ => ⟨S128x4608, .bf16⟩
  | .hbm, ⟨7, _⟩ => ⟨S144x32000, .bf16⟩
  | .hbm, ⟨8, _⟩ => ⟨S144x32000, .bf16⟩
  | .hbm, ⟨9, _⟩ => ⟨S128x1, .i32⟩
  | .hbm, ⟨10, _⟩ => ⟨S128x1, .f32⟩
  | .hbm, ⟨11, _⟩ => ⟨S128x1, .f32⟩
  | .local _ .vmem, ⟨0, _⟩ => ⟨S128x4608, .bf16⟩
  | .local _ .vmem, ⟨1, _⟩ => ⟨S256x2304, .i8⟩
  | .local _ .vmem, ⟨2, _⟩ => ⟨S256x2304, .i8⟩
  | .local _ .vmem, ⟨3, _⟩ => ⟨S144x256, .bf16⟩
  | .local _ .vmem, ⟨4, _⟩ => ⟨S144x256, .bf16⟩
  | .local _ .vmem, ⟨5, _⟩ => ⟨S144x256, .bf16⟩
  | .local _ .vmem, ⟨6, _⟩ => ⟨S144x256, .bf16⟩
  | .local _ .vmem, ⟨7, _⟩ => ⟨S128x1, .i32⟩
  | .local _ .vmem, ⟨8, _⟩ => ⟨S128x1, .f32⟩
  | .local _ .vmem, ⟨9, _⟩ => ⟨S128x1, .f32⟩
  | .local _ .vmem, ⟨10, _⟩ => ⟨S128x128, .f32⟩
  | .local _ .vmem, ⟨11, _⟩ => ⟨S128x128, .f32⟩
  | .local _ .vmem, ⟨12, _⟩ => ⟨S128x128, .i32⟩
  | _, _ => ⟨S128x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [BitOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v4426 : BitVec 1 := Scalar.cmpi .eq arg0 c124_i32
  let v4427 : BitVec 32 := Scalar.extui v4426
  let c0_i32_1122 : BitVec 32 := 0#32
  let v4428 : BitVec 1 := Scalar.cmpi .ne v4427 c0_i32_1122
  v4428

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S128x1x4608 : Shape := ⟨3, ![128, 1, 4608]⟩
abbrev S32000x2304 : Shape := ⟨2, ![32000, 2304]⟩
abbrev S32000x144 : Shape := ⟨2, ![32000, 144]⟩
abbrev S128x144x2x16 : Shape := ⟨4, ![128, 144, 2, 16]⟩
abbrev S128x144x1x16 : Shape := ⟨4, ![128, 144, 1, 16]⟩
abbrev S128x144x16 : Shape := ⟨3, ![128, 144, 16]⟩
abbrev S128x2304 : Shape := ⟨2, ![128, 2304]⟩
abbrev S32000x144x16 : Shape := ⟨3, ![32000, 144, 16]⟩
abbrev S_ : Shape := ⟨0, ![]⟩
abbrev S128x32000 : Shape := ⟨2, ![128, 32000]⟩
abbrev S128 : Shape := ⟨1, ![128]⟩
abbrev S128x1 : Shape := ⟨2, ![128, 1]⟩

abbrev nBuf : Space → Nat
  | .hbm => 52
  | .vmem => 0
  | .smem => 0
  | _ => 0

abbrev bufTy : (tb : Table) → Fin (tcTables nBuf tb) → BufTy
  | .hbm, ⟨0, _⟩ => ⟨S128x1x4608, .bf16⟩
  | .hbm, ⟨1, _⟩ => ⟨S32000x2304, .i8⟩
  | .hbm, ⟨2, _⟩ => ⟨S32000x144, .bf16⟩
  | .hbm, ⟨3, _⟩ => ⟨S32000x144, .bf16⟩
  | .hbm, ⟨4, _⟩ => ⟨S128x144x2x16, .bf16⟩
  | .hbm, ⟨5, _⟩ => ⟨S128x144x1x16, .bf16⟩
  | .hbm, ⟨6, _⟩ => ⟨S128x144x16, .bf16⟩
  | .hbm, ⟨7, _⟩ => ⟨S128x2304, .bf16⟩
  | .hbm, ⟨8, _⟩ => ⟨S128x144x1x16, .bf16⟩
  | .hbm, ⟨9, _⟩ => ⟨S128x144x16, .bf16⟩
  | .hbm, ⟨10, _⟩ => ⟨S128x2304, .bf16⟩
  | .hbm, ⟨11, _⟩ => ⟨S32000x144x16, .bf16⟩
  | .hbm, ⟨12, _⟩ => ⟨S32000x2304, .bf16⟩
  | .hbm, ⟨13, _⟩ => ⟨S32000x144x16, .bf16⟩
  | .hbm, ⟨14, _⟩ => ⟨S32000x2304, .bf16⟩
  | .hbm, ⟨15, _⟩ => ⟨S32000x2304, .i32⟩
  | .hbm, ⟨16, _⟩ => ⟨S_, .i32⟩
  | .hbm, ⟨17, _⟩ => ⟨S32000x2304, .i32⟩
  | .hbm, ⟨18, _⟩ => ⟨S32000x2304, .i32⟩
  | .hbm, ⟨19, _⟩ => ⟨S32000x2304, .bf16⟩
  | .hbm, ⟨20, _⟩ => ⟨S32000x2304, .bf16⟩
  | .hbm, ⟨21, _⟩ => ⟨S32000x2304, .bf16⟩
  | .hbm, ⟨22, _⟩ => ⟨S_, .i32⟩
  | .hbm, ⟨23, _⟩ => ⟨S32000x2304, .i32⟩
  | .hbm, ⟨24, _⟩ => ⟨S32000x2304, .i32⟩
  | .hbm, ⟨25, _⟩ => ⟨S32000x2304, .bf16⟩
  | .hbm, ⟨26, _⟩ => ⟨S32000x2304, .bf16⟩
  | .hbm, ⟨27, _⟩ => ⟨S32000x2304, .bf16⟩
  | .hbm, ⟨28, _⟩ => ⟨S128x32000, .f32⟩
  | .hbm, ⟨29, _⟩ => ⟨S128x32000, .f32⟩
  | .hbm, ⟨30, _⟩ => ⟨S128x32000, .f32⟩
  | .hbm, ⟨31, _⟩ => ⟨S_, .f32⟩
  | .hbm, ⟨32, _⟩ => ⟨S128, .f32⟩
  | .hbm, ⟨33, _⟩ => ⟨S128x32000, .i32⟩
  | .hbm, ⟨34, _⟩ => ⟨S_, .f32⟩
  | .hbm, ⟨35, _⟩ => ⟨S_, .i32⟩
  | .hbm, ⟨36, _⟩ => ⟨S128, .f32⟩
  | .hbm, ⟨37, _⟩ => ⟨S128, .i32⟩
  | .hbm, ⟨38, _⟩ => ⟨S128x32000, .i32⟩
  | .hbm, ⟨39, _⟩ => ⟨S128x1, .i32⟩
  | .hbm, ⟨40, _⟩ => ⟨S128x32000, .i32⟩
  | .hbm, ⟨41, _⟩ => ⟨S128x32000, .i1⟩
  | .hbm, ⟨42, _⟩ => ⟨S_, .f32⟩
  | .hbm, ⟨43, _⟩ => ⟨S_, .f32⟩
  | .hbm, ⟨44, _⟩ => ⟨S128x32000, .f32⟩
  | .hbm, ⟨45, _⟩ => ⟨S128x32000, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128x1, .i32⟩
  | .hbm, ⟨50, _⟩ => ⟨S128x1, .f32⟩
  | .hbm, ⟨51, _⟩ => ⟨S128x1, .f32⟩
  | _, _ => ⟨S128x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.RefRun.lean ====
/- The reference's run. Its @main is a straight line of host operations; this module lists them, runs them, and
   names what the three result buffers hold as functions of the four arguments' launch contents. -/
module

public import proofs.«01_k».proof.Defs
public import proofs.«01_k».proof.Proof.Gen.ReferenceIdeal
public import Idealize.ShloMosaic.Lib.StableHlo.Run
public import Idealize.ShloMosaic.Lib.Tactic
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-- The reference's operations up to the logits, in order. -/
abbrev pre : List (HloOp τ sig (Elt F)) :=
  [ reshape main_arg0 main_v0 (rfl : (.bf16 : EltTy) = .bf16) shapeCasts_S128x1x4608_S128x144x2x16,
    unary main_v0 main_v1 ((extractStridedSlice S128x144x1x16 ![0, 0, 0, 0] · slices_S128x144x2x16_S128x144x1x16_0_0_0_0) : (⟨S128x144x2x16, .bf16⟩ : BufTy).Contents (Elt F) → (⟨S128x144x1x16, .bf16⟩ : BufTy).Contents (Elt F)),
    reshape main_v1 main_v2 (rfl : (.bf16 : EltTy) = .bf16) shapeCasts_S128x144x1x16_S128x144x16,
    reshape main_v2 main_v3 (rfl : (.bf16 : EltTy) = .bf16) shapeCasts_S128x144x16_S128x2304,
    unary main_v0 main_v4 ((extractStridedSlice S128x144x1x16 ![0, 0, 1, 0] · slices_S128x144x2x16_S128x144x1x16_0_0_1_0) : (⟨S128x144x2x16, .bf16⟩ : BufTy).Contents (Elt F) → (⟨S128x144x1x16, .bf16⟩ : BufTy).Contents (Elt F)),
    reshape main_v4 main_v5 (rfl : (.bf16 : EltTy) = .bf16) shapeCasts_S128x144x1x16_S128x144x16,
    reshape main_v5 main_v6 (rfl : (.bf16 : EltTy) = .bf16) shapeCasts_S128x144x16_S128x2304,
    unary main_arg2 main_v7 (broadcastInDim S32000x144x16 ![0, 1] bcast_S32000x144_S32000x144x16_0_1 : (⟨S32000x144, .bf16⟩ : BufTy).Contents (Elt F) → (⟨S32000x144x16, .bf16⟩ : BufTy).Contents (Elt F)),
    reshape main_v7 main_v8 (rfl : (.bf16 : EltTy) = .bf16) shapeCasts_S32000x144x16_S32000x2304,
    unary main_arg3 main_v9 (broadcastInDim S32000x144x16 ![0, 1] bcast_S32000x144_S32000x144x16_0_1 : (⟨S32000x144, .bf16⟩ : BufTy).Contents (Elt F) → (⟨S32000x144x16, .bf16⟩ : BufTy).Contents (Elt F)),
    reshape main_v9 main_v10 (rfl : (.bf16 : EltTy) = .bf16) shapeCasts_S32000x144x16_S32000x2304,
    unary main_arg1 main_v11 ((extui 32 · natLt_8_32) : (⟨S32000x2304, .i8⟩ : BufTy).Contents (Elt F) → (⟨S32000x2304, .i32⟩ : BufTy).Contents (Elt F)),
    nullary main_c (constantI S_ 32 15#32),
    unary main_c main_v12 (broadcastInDim S32000x2304 ![] bcast_S_S32000x2304 : (⟨S_, .i32⟩ : BufTy).Contents (Elt F) → (⟨S32000x2304, .i32⟩ : BufTy).Contents (Elt F)),
    binary main_v11 main_v12 main_v13 (andi : (⟨S32000x2304, .i32⟩ : BufTy).Contents (Elt F) → (⟨S32000x2304, .i32⟩ : BufTy).Contents (Elt F) → (⟨S32000x2304, .i32⟩ : BufTy).Contents (Elt F)),
    unary main_v13 main_v14 (sitofp .bf16 : (⟨S32000x2304, .i32⟩ : BufTy).Contents (Elt F) → (⟨S32000x2304, .bf16⟩ : BufTy).Contents (Elt F)),
    binary main_v14 main_v8 main_v15 (mulf : (⟨S32000x2304, .bf16⟩ : BufTy).Contents (Elt F) → (⟨S32000x2304, .bf16⟩ : BufTy).Contents (Elt F) → (⟨S32000x2304, .bf16⟩ : BufTy).Contents (Elt F)),
    binary main_v15 main_v10 main_v16 (addf : (⟨S32000x2304, .bf16⟩ : BufTy).Contents (Elt F) → (⟨S32000x2304, .bf16⟩ : BufTy).Contents (Elt F) → (⟨S32000x2304, .bf16⟩ : BufTy).Contents (Elt F)),
    nullary main_c_0 (constantI S_ 32 4#32),
    unary main_c_0 main_v17 (broadcastInDim S32000x2304 ![] bcast_S_S32000x2304 : (⟨S_, .i32⟩ : BufTy).Contents (Elt F) → (⟨S32000x2304, .i32⟩ : BufTy).Contents (Elt F)),
    binary main_v11 main_v17 main_v18 (Host.shrsi : (⟨S32000x2304, .i32⟩ : BufTy).Contents (Elt F) → (⟨S32000x2304, .i32⟩ : BufTy).Contents (Elt F) → (⟨S32000x2304, .i32⟩ : BufTy).Contents (Elt F)),
    unary main_v18 main_v19 (sitofp .bf16 : (⟨S32000x2304, .i32⟩ : BufTy).Contents (Elt F) → (⟨S32000x2304, .bf16⟩ : BufTy).Contents (Elt F)),
    binary main_v19 main_v8 main_v20 (mulf : (⟨S32000x2304, .bf16⟩ : BufTy).Contents (Elt F) → (⟨S32000x2304, .bf16⟩ : BufTy).Contents (Elt F) → (⟨S32000x2304, .bf16⟩ : BufTy).Contents (Elt F)),
    binary main_v20 main_v10 main_v21 (addf : (⟨S32000x2304, .bf16⟩ : BufTy).Contents (Elt F) → (⟨S32000x2304, .bf16⟩ : BufTy).Contents (Elt F) → (⟨S32000x2304, .bf16⟩ : BufTy).Contents (Elt F)),
    binary main_v3 main_v16 main_v22 ((fun l r => Host.dotGeneral dot_S128x2304_S32000x2304_S128x32000_1_1_0_0_n_n none l r) : (⟨S128x2304, .bf16⟩ : BufTy).Contents (Elt F) → (⟨S32000x2304, .bf16⟩ : BufTy).Contents (Elt F) → (⟨S128x32000, .f32⟩ : BufTy).Contents (Elt F)),
    binary main_v6 main_v21 main_v23 ((fun l r => Host.dotGeneral dot_S128x2304_S32000x2304_S128x32000_1_1_0_0_n_n none l r) : (⟨S128x2304, .bf16⟩ : BufTy).Contents (Elt F) → (⟨S32000x2304, .bf16⟩ : BufTy).Contents (Elt F) → (⟨S128x32000, .f32⟩ : BufTy).Contents (Elt F)),
    binary main_v22 main_v23 main_v24 (addf : (⟨S128x32000, .f32⟩ : BufTy).Contents (Elt F) → (⟨S128x32000, .f32⟩ : BufTy).Contents (Elt F) → (⟨S128x32000, .f32⟩ : BufTy).Contents (Elt F)) ]

/-- The operations from the logits to their rows' maxima and arg-maxima. -/
abbrev mid : List (HloOp τ sig (Elt F)) :=
  [ nullary main_cst (constant S_ .f32 0xFF800000#32),
    binary main_v24 main_cst main_v25 ((fun x v => Host.reduce FloatOps.maximumf x v reducesTo_S128x32000_S128_d1 h_S_) : (⟨S128x32000, .f32⟩ : BufTy).Contents (Elt F) → (⟨S_, .f32⟩ : BufTy).Contents (Elt F) → (⟨S128, .f32⟩ : BufTy).Contents (Elt F)),
    nullary main_call0_v0 (iotaInDim S128x32000 32 1),
    nullary main_call0_cst (constant S_ .f32 0xFF800000#32),
    nullary main_call0_c (constantI S_ 32 0#32),
    quaternary main_v24 main_call0_v0 main_call0_cst main_call0_c main_call0_v1_0 (fun x y u v j => (Host.argReduce reducer_argmax_f32_i32 x y u v reducesTo_S128x32000_S128_d1 h_S_ j).1),
    quaternary main_v24 main_call0_v0 main_call0_cst main_call0_c main_v26 (fun x y u v j => (Host.argReduce reducer_argmax_f32_i32 x y u v reducesTo_S128x32000_S128_d1 h_S_ j).2) ]

/-- The remaining operations. -/
abbrev tail : List (HloOp τ sig (Elt F)) :=
  [ nullary main_v27 (iotaInDim S128x32000 32 1),
    unary main_v26 main_v28 (broadcastInDim S128x1 ![0] bcast_S128_S128x1_0 : (⟨S128, .i32⟩ : BufTy).Contents (Elt F) → (⟨S128x1, .i32⟩ : BufTy).Contents (Elt F)),
    unary main_v28 main_v29 (broadcastInDim S128x32000 ![0, 1] bcast_S128x1_S128x32000_0_1 : (⟨S128x1, .i32⟩ : BufTy).Contents (Elt F) → (⟨S128x32000, .i32⟩ : BufTy).Contents (Elt F)),
    binary main_v27 main_v29 main_v30 (cmpi .eq : (⟨S128x32000, .i32⟩ : BufTy).Contents (Elt F) → (⟨S128x32000, .i32⟩ : BufTy).Contents (Elt F) → (⟨S128x32000, .i1⟩ : BufTy).Contents (Elt F)),
    nullary main_cst_1 (constant S_ .f32 0xFF800000#32),
    unary main_cst_1 main_call1_v0 id,
    unary main_call1_v0 main_call1_v1 (broadcastInDim S128x32000 ![] bcast_S_S128x32000),
    ternary main_v30 main_call1_v1 main_v24 main_v31 select,
    nullary main_cst_2 (constant S_ .f32 0xFF800000#32),
    binary main_v31 main_cst_2 main_v32 ((fun x v => Host.reduce FloatOps.maximumf x v reducesTo_S128x32000_S128_d1 h_S_) : (⟨S128x32000, .f32⟩ : BufTy).Contents (Elt F) → (⟨S_, .f32⟩ : BufTy).Contents (Elt F) → (⟨S128, .f32⟩ : BufTy).Contents (Elt F)),
    binary main_v25 main_v32 main_v33 (subf : (⟨S128, .f32⟩ : BufTy).Contents (Elt F) → (⟨S128, .f32⟩ : BufTy).Contents (Elt F) → (⟨S128, .f32⟩ : BufTy).Contents (Elt F)),
    reshape main_v26 main_v34 (rfl : (.i32 : EltTy) = .i32) shapeCasts_S128_S128x1,
    reshape main_v33 main_v35 (rfl : (.f32 : EltTy) = .f32) shapeCasts_S128_S128x1,
    reshape main_v25 main_v36 (rfl : (.f32 : EltTy) = .f32) shapeCasts_S128_S128x1 ]

/-- The reference's operations. -/
abbrev ops : List (HloOp τ sig (Elt F)) := pre ++ (mid ++ tail)

set_option maxRecDepth 8000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8000 in
theorem ops_sub : (ops : List (HloOp τ sig (Elt F))).Forall fun op => op.bufs ⊆ tcRefs τ sig :=
  ⟨reshape_bufs_sub .., unary_bufs_sub .., reshape_bufs_sub .., reshape_bufs_sub .., unary_bufs_sub .., reshape_bufs_sub .., reshape_bufs_sub .., unary_bufs_sub .., reshape_bufs_sub .., unary_bufs_sub .., reshape_bufs_sub .., unary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., binary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub .., binary_bufs_sub .., binary_bufs_sub .., reshape_bufs_sub .., reshape_bufs_sub .., reshape_bufs_sub ..⟩

/-- The low half of each 32-value group of `x`, flattened. -/
def xLo (x : FVec F S128x1x4608 .bf16) : FVec F S128x2304 .bf16 :=
  shapeCast S128x2304 (shapeCast S128x144x16 (extractStridedSlice S128x144x1x16 ![0, 0, 0, 0] (shapeCast S128x144x2x16 x shapeCasts_S128x1x4608_S128x144x2x16) slices_S128x144x2x16_S128x144x1x16_0_0_0_0) shapeCasts_S128x144x1x16_S128x144x16) shapeCasts_S128x144x16_S128x2304

/-- The high half of each 32-value group of `x`, flattened. -/
def xHi (x : FVec F S128x1x4608 .bf16) : FVec F S128x2304 .bf16 :=
  shapeCast S128x2304 (shapeCast S128x144x16 (extractStridedSlice S128x144x1x16 ![0, 0, 1, 0] (shapeCast S128x144x2x16 x shapeCasts_S128x1x4608_S128x144x2x16) slices_S128x144x2x16_S128x144x1x16_0_0_1_0) shapeCasts_S128x144x1x16_S128x144x16) shapeCasts_S128x144x16_S128x2304

/-- A per-group value (a scale or a minimum) repeated over the 16 bytes of its group. -/
def rep (s : FVec F S32000x144 .bf16) : FVec F S32000x2304 .bf16 :=
  shapeCast S32000x2304 (broadcastInDim S32000x144x16 ![0, 1] bcast_S32000x144_S32000x144x16_0_1 s) shapeCasts_S32000x144x16_S32000x2304

/-- The packed bytes as 32-bit integers. -/
def codes (w : IVec S32000x2304 8) : IVec S32000x2304 32 := extui 32 w natLt_8_32

/-- Codes dequantized: code times scale plus minimum. -/
def deq (q : IVec S32000x2304 32) (s n : FVec F S32000x144 .bf16) : FVec F S32000x2304 .bf16 :=
  addf (mulf (sitofp .bf16 q) (rep s)) (rep n)

/-- The low nibbles of the packed bytes. -/
def qLo (w : IVec S32000x2304 8) : IVec S32000x2304 32 :=
  andi (codes w) (broadcastInDim S32000x2304 ![] bcast_S_S32000x2304 (constantI S_ 32 15#32))

/-- The high nibbles of the packed bytes. -/
def qHi (w : IVec S32000x2304 8) : IVec S32000x2304 32 :=
  Host.shrsi (codes w) (broadcastInDim S32000x2304 ![] bcast_S_S32000x2304 (constantI S_ 32 4#32))

/-- The logits: the low halves against the low nibbles' weights plus the high halves against the high nibbles'. -/
def logits (x : FVec F S128x1x4608 .bf16) (w : IVec S32000x2304 8) (s n : FVec F S32000x144 .bf16) : FVec F S128x32000 .f32 :=
  addf (Host.dotGeneral dot_S128x2304_S32000x2304_S128x32000_1_1_0_0_n_n none (xLo x) (deq (qLo w) s n))
    (Host.dotGeneral dot_S128x2304_S32000x2304_S128x32000_1_1_0_0_n_n none (xHi x) (deq (qHi w) s n))

/-- Each row's maximum. -/
def rowMax (l : FVec F S128x32000 .f32) : FVec F S128 .f32 :=
  Host.reduce FloatOps.maximumf l (constant S_ .f32 0xFF800000#32) reducesTo_S128x32000_S128_d1 h_S_

/-- Each row's arg-max. -/
def rowArg (l : FVec F S128x32000 .f32) : IVec S128 32 :=
  fun j => (Host.argReduce reducer_argmax_f32_i32 l (iotaInDim S128x32000 32 1) (constant S_ .f32 0xFF800000#32) (constantI S_ 32 0#32) reducesTo_S128x32000_S128_d1 h_S_ j).2

/-- The logits with the column `a` names put to minus infinity, row by row. -/
def maskAt (a : IVec S128 32) (l : FVec F S128x32000 .f32) : FVec F S128x32000 .f32 :=
  select (cmpi .eq (iotaInDim S128x32000 32 1) (broadcastInDim S128x32000 ![0, 1] bcast_S128x1_S128x32000_0_1 (broadcastInDim S128x1 ![0] bcast_S128_S128x1_0 a)))
    (broadcastInDim S128x32000 ![] bcast_S_S128x32000 (constant S_ .f32 0xFF800000#32)) l

/-- The logits with the arg-max's column put to minus infinity. -/
def masked (l : FVec F S128x32000 .f32) : FVec F S128x32000 .f32 := maskAt (rowArg l) l

/-- The token result. -/
def refTok (l : FVec F S128x32000 .f32) : IVec S128x1 32 := shapeCast S128x1 (rowArg l) shapeCasts_S128_S128x1
/-- The margin result. -/
def refMargin (l : FVec F S128x32000 .f32) : FVec F S128x1 .f32 := shapeCast S128x1 (subf (rowMax l) (rowMax (masked l))) shapeCasts_S128_S128x1
/-- The top-logit result. -/
def refTop (l : FVec F S128x32000 .f32) : FVec F S128x1 .f32 := shapeCast S128x1 (rowMax l) shapeCasts_S128_S128x1

/-- The logits of the launch contents. -/
abbrev lg (m : (ℓ : Loc nD τ sig) → Buf (Elt F) ℓ) (c : Dev nD) : FVec F S128x32000 .f32 :=
  logits (m ((c.tc : Thread nD τ).loc main_arg0)) (m ((c.tc : Thread nD τ).loc main_arg1)) (m ((c.tc : Thread nD τ).loc main_arg2)) (m ((c.tc : Thread nD τ).loc main_arg3))

set_option maxRecDepth 8000 in
set_option maxHeartbeats 2000000 in
/-- The logits buffer after the first operations. -/
theorem pre_logits (V : Valuation τ sig (Elt F)) :
    after pre V (Proc.devRef .tc main_v24) = logits (V (Proc.devRef .tc main_arg0)) (V (Proc.devRef .tc main_arg1)) (V (Proc.devRef .tc main_arg2)) (V (Proc.devRef .tc main_arg3)) := by
  after_results_simp
  unfold logits deq rep qLo qHi codes xLo xHi; rfl

set_option maxRecDepth 8000 in
set_option maxHeartbeats 2000000 in
/-- The rows' maxima. -/
theorem mid_max (V : Valuation τ sig (Elt F)) :
    after mid V (Proc.devRef .tc main_v25) = rowMax (V (Proc.devRef .tc main_v24)) := by
  after_results_simp
  unfold rowMax; rfl

set_option maxRecDepth 8000 in
set_option maxHeartbeats 2000000 in
/-- The rows' arg-maxima. -/
theorem mid_arg (V : Valuation τ sig (Elt F)) :
    after mid V (Proc.devRef .tc main_v26) = rowArg (V (Proc.devRef .tc main_v24)) := by
  after_results_simp
  unfold rowArg; rfl

set_option maxRecDepth 8000 in
set_option maxHeartbeats 2000000 in
/-- The logits stay. -/
theorem mid_logits (V : Valuation τ sig (Elt F)) :
    after mid V (Proc.devRef .tc main_v24) = V (Proc.devRef .tc main_v24) := by
  after_results_simp

set_option maxRecDepth 8000 in
set_option maxHeartbeats 2000000 in
/-- The top-logit buffer after the rest. -/
theorem tail_top (V : Valuation τ sig (Elt F)) :
    after tail V (Proc.devRef .tc main_v36) = shapeCast S128x1 (V (Proc.devRef .tc main_v25)) shapeCasts_S128_S128x1 := by
  after_results_simp
  rfl

set_option maxRecDepth 8000 in
set_option maxHeartbeats 2000000 in
/-- The token buffer after the rest. -/
theorem tail_tok (V : Valuation τ sig (Elt F)) :
    after tail V (Proc.devRef .tc main_v34) = shapeCast S128x1 (V (Proc.devRef .tc main_v26)) shapeCasts_S128_S128x1 := by
  after_results_simp
  rfl

set_option maxRecDepth 8000 in
set_option maxHeartbeats 2000000 in
/-- The margin buffer after the rest. -/
theorem tail_margin (V : Valuation τ sig (Elt F)) :
    after tail V (Proc.devRef .tc main_v35) = shapeCast S128x1 (subf (V (Proc.devRef .tc main_v25)) (rowMax (maskAt (V (Proc.devRef .tc main_v26)) (V (Proc.devRef .tc main_v24))))) shapeCasts_S128_S128x1 := by
  after_results_simp
  unfold rowMax maskAt; rfl

set_option maxRecDepth 8000 in
set_option maxHeartbeats 2000000 in
/-- Argument 0 is unchanged. -/
theorem pre_arg0 (V : Valuation τ sig (Elt F)) :
    after pre V (Proc.devRef .tc main_arg0) = V (Proc.devRef .tc main_arg0) := by
  after_results_simp

set_option maxRecDepth 8000 in
set_option maxHeartbeats 2000000 in
/-- Argument 1 is unchanged. -/
theorem pre_arg1 (V : Valuation τ sig (Elt F)) :
    after pre V (Proc.devRef .tc main_arg1) = V (Proc.devRef .tc main_arg1) := by
  after_results_simp

set_option maxRecDepth 8000 in
set_option maxHeartbeats 2000000 in
/-- Argument 2 is unchanged. -/
theorem pre_arg2 (V : Valuation τ sig (Elt F)) :
    after pre V (Proc.devRef .tc main_arg2) = V (Proc.devRef .tc main_arg2) := by
  after_results_simp

set_option maxRecDepth 8000 in
set_option maxHeartbeats 2000000 in
/-- Argument 3 is unchanged. -/
theorem pre_arg3 (V : Valuation τ sig (Elt F)) :
    after pre V (Proc.devRef .tc main_arg3) = V (Proc.devRef .tc main_arg3) := by
  after_results_simp

set_option maxRecDepth 8000 in
set_option maxHeartbeats 2000000 in
/-- Argument 0 is unchanged. -/
theorem mid_arg0 (V : Valuation τ sig (Elt F)) :
    after mid V (Proc.devRef .tc main_arg0) = V (Proc.devRef .tc main_arg0) := by
  after_results_simp

set_option maxRecDepth 8000 in
set_option maxHeartbeats 2000000 in
/-- Argument 1 is unchanged. -/
theorem mid_arg1 (V : Valuation τ sig (Elt F)) :
    after mid V (Proc.devRef .tc main_arg1) = V (Proc.devRef .tc main_arg1) := by
  after_results_simp

set_option maxRecDepth 8000 in
set_option maxHeartbeats 2000000 in
/-- Argument 2 is unchanged. -/
theorem mid_arg2 (V : Valuation τ sig (Elt F)) :
    after mid V (Proc.devRef .tc main_arg2) = V (Proc.devRef .tc main_arg2) := by
  after_results_simp

set_option maxRecDepth 8000 in
set_option maxHeartbeats 2000000 in
/-- Argument 3 is unchanged. -/
theorem mid_arg3 (V : Valuation τ sig (Elt F)) :
    after mid V (Proc.devRef .tc main_arg3) = V (Proc.devRef .tc main_arg3) := by
  after_results_simp

set_option maxRecDepth 8000 in
set_option maxHeartbeats 2000000 in
/-- Argument 0 is unchanged. -/
theorem tail_arg0 (V : Valuation τ sig (Elt F)) :
    after tail V (Proc.devRef .tc main_arg0) = V (Proc.devRef .tc main_arg0) := by
  after_results_simp

set_option maxRecDepth 8000 in
set_option maxHeartbeats 2000000 in
/-- Argument 1 is unchanged. -/
theorem tail_arg1 (V : Valuation τ sig (Elt F)) :
    after tail V (Proc.devRef .tc main_arg1) = V (Proc.devRef .tc main_arg1) := by
  after_results_simp

set_option maxRecDepth 8000 in
set_option maxHeartbeats 2000000 in
/-- Argument 2 is unchanged. -/
theorem tail_arg2 (V : Valuation τ sig (Elt F)) :
    after tail V (Proc.devRef .tc main_arg2) = V (Proc.devRef .tc main_arg2) := by
  after_results_simp

set_option maxRecDepth 8000 in
set_option maxHeartbeats 2000000 in
/-- Argument 3 is unchanged. -/
theorem tail_arg3 (V : Valuation τ sig (Elt F)) :
    after tail V (Proc.devRef .tc main_arg3) = V (Proc.devRef .tc main_arg3) := by
  after_results_simp

theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The operations run as their three stretches, one after the other. -/
theorem ops_split (V : Valuation τ sig (Elt F)) : after ops V = after tail (after mid (after pre V)) := by
  rw [show (ops : List (HloOp τ sig (Elt F))) = pre ++ (mid ++ tail) from rfl, after_app, after_app]

theorem ops_arg0 (V : Valuation τ sig (Elt F)) : after ops V (Proc.devRef .tc main_arg0) = V (Proc.devRef .tc main_arg0) := by
  rw [ops_split, tail_arg0, mid_arg0, pre_arg0]
theorem ops_arg1 (V : Valuation τ sig (Elt F)) : after ops V (Proc.devRef .tc main_arg1) = V (Proc.devRef .tc main_arg1) := by
  rw [ops_split, tail_arg1, mid_arg1, pre_arg1]
theorem ops_arg2 (V : Valuation τ sig (Elt F)) : after ops V (Proc.devRef .tc main_arg2) = V (Proc.devRef .tc main_arg2) := by
  rw [ops_split, tail_arg2, mid_arg2, pre_arg2]
theorem ops_arg3 (V : Valuation τ sig (Elt F)) : after ops V (Proc.devRef .tc main_arg3) = V (Proc.devRef .tc main_arg3) := by
  rw [ops_split, tail_arg3, mid_arg3, pre_arg3]

/-- The token buffer after all operations. -/
theorem ops_tok (V : Valuation τ sig (Elt F)) : after ops V (Proc.devRef .tc main_v34) = refTok (logits (V (Proc.devRef .tc main_arg0)) (V (Proc.devRef .tc main_arg1)) (V (Proc.devRef .tc main_arg2)) (V (Proc.devRef .tc main_arg3))) := by
  rw [ops_split, tail_tok, mid_arg, pre_logits, refTok]
/-- The margin buffer after all operations. -/
theorem ops_margin (V : Valuation τ sig (Elt F)) : after ops V (Proc.devRef .tc main_v35) = refMargin (logits (V (Proc.devRef .tc main_arg0)) (V (Proc.devRef .tc main_arg1)) (V (Proc.devRef .tc main_arg2)) (V (Proc.devRef .tc main_arg3))) := by
  rw [ops_split, tail_margin, mid_max, mid_arg, mid_logits, pre_logits, refMargin, masked]
/-- The top-logit buffer after all operations. -/
theorem ops_top (V : Valuation τ sig (Elt F)) : after ops V (Proc.devRef .tc main_v36) = refTop (logits (V (Proc.devRef .tc main_arg0)) (V (Proc.devRef .tc main_arg1)) (V (Proc.devRef .tc main_arg2)) (V (Proc.devRef .tc main_arg3))) := by
  rw [ops_split, tail_top, mid_max, pre_logits, refTop]

/-- From any memory with zero counters the reference terminates with its three results at the named functions of its
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refTok (lg m c)
      ∧ r.2.mem ((c.tc : Thread nD τ).loc main_v35) = refMargin (lg m c)
      ∧ r.2.mem ((c.tc : Thread nD τ).loc main_v36) = refTop (lg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (ops_tok _), (h c main_v35).trans (ops_margin _),
      (h c main_v36).trans (ops_top _),
      (h c main_arg0).trans (ops_arg0 _), (h c main_arg1).trans (ops_arg1 _),
      (h c main_arg2).trans (ops_arg2 _), (h c main_arg3).trans (ops_arg3 _)⟩)
    (run_seq scopedRefs_eq scopedSems_eq defs main (fun _ => ops) main_eq (fun _ => ops_sub) m ρ)

end Cert.ReferenceIdeal.Value

end
-- ==== Proof.Step.lean ====
/- What one grid point computes, stated once for every point: the block's 256 logits as eighteen equal steps over the
   depth, and what the three carried scratch arrays become. The generated run's contents are shown to be these. -/
module

public import proofs.«01_k».proof.Proof.Gen.KernelIdeal.Value

@[expose] public section
noncomputable section
namespace Cert.KernelIdeal.Value
open Cert.KernelIdeal Cert.KernelIdeal.Gen Idealize.ShloMosaic Idealize.ShloMosaic.TcCoe Idealize.SL.Sem
open Idealize.ShloMosaic.Pipeline (Dat)
open Idealize.ShloMosaic.Tactic
variable {F : FTy → Type} [FloatOps F]

/-- The zero offsets. -/
theorem hz : (![0, 0] : Fin 2 → Nat) = fun _ => 0 := funext fun a => by fin_cases a <;> rfl

/-- Row `r` of a scale or minimum block. -/
def row (s : Vec F S144x256 .bf16) (r : Nat) (h : r < 144) : Vec F S1x256 .bf16 :=
  View.ld s (Rect.unit ![r, 0] S1x256.size (fun a => match a with
    | ⟨0, _⟩ => (show r + 1 ≤ 144 from h)
    | ⟨1, _⟩ => (show 0 + 256 ≤ 256 from le_refl _)))

/-- A row repeated over sixteen rows. -/
def rep16 (v : Vec F S1x256 .bf16) : FVec F S16x256 .bf16 :=
  interleaveRows S16x256 (truncf .bf16 (broadcastTo S8x256 (shapeCast S1x256 (extf .f32 (shapeCast S1x256 v shapeCasts_S1x256_S1x256) bitsLt_bf16_f32) shapeCasts_S1x256_S1x256) broadcasts_S1x256_S8x256) bitsLt_bf16_f32)
    (truncf .bf16 (broadcastTo S8x256 (shapeCast S1x256 (extf .f32 (shapeCast S1x256 v shapeCasts_S1x256_S1x256) bitsLt_bf16_f32) shapeCasts_S1x256_S1x256) broadcasts_S1x256_S8x256) bitsLt_bf16_f32) bitcasts_S16x256_w16_S8x256_w32

/-- Step `k`'s scales or minima over its 256 rows: eight rows of the block, each repeated over 32 rows. -/
def smat (s : Vec F S144x256 .bf16) (k : Nat) (h : k < 18) : FVec F S256x256 .bf16 :=
  concatenate S256x256 0 [⟨S16x256, rep16 (row s (k * 8 + 0) (by omega))⟩, ⟨S16x256, rep16 (row s (k * 8 + 0) (by omega))⟩, ⟨S16x256, rep16 (row s (k * 8 + 1) (by omega))⟩, ⟨S16x256, rep16 (row s (k * 8 + 1) (by omega))⟩, ⟨S16x256, rep16 (row s (k * 8 + 2) (by omega))⟩, ⟨S16x256, rep16 (row s (k * 8 + 2) (by omega))⟩, ⟨S16x256, rep16 (row s (k * 8 + 3) (by omega))⟩, ⟨S16x256, rep16 (row s (k * 8 + 3) (by omega))⟩, ⟨S16x256, rep16 (row s (k * 8 + 4) (by omega))⟩, ⟨S16x256, rep16 (row s (k * 8 + 4) (by omega))⟩, ⟨S16x256, rep16 (row s (k * 8 + 5) (by omega))⟩, ⟨S16x256, rep16 (row s (k * 8 + 5) (by omega))⟩, ⟨S16x256, rep16 (row s (k * 8 + 6) (by omega))⟩, ⟨S16x256, rep16 (row s (k * 8 + 6) (by omega))⟩, ⟨S16x256, rep16 (row s (k * 8 + 7) (by omega))⟩, ⟨S16x256, rep16 (row s (k * 8 + 7) (by omega))⟩]
    concatenates_S16x256_S16x256_S16x256_S16x256_S16x256_S16x256_S16x256_S16x256_S16x256_S16x256_S16x256_S16x256_S16x256_S16x256_S16x256_S16x256_S256x256_d0

/-- The codes of 128 packed bytes per column, low and high nibbles in alternating rows. -/
def qmat (v : Vec F S256x128 .i8) : FVec F S256x256 .bf16 :=
  sitofp .bf16 (shapeCast S256x256 (concatenate S128x2x256 1
    [⟨S128x1x256, shapeCast S128x1x256 (andi (extui 32 (transpose S128x256 [1, 0] v transposes_S256x128_p1_0_S128x256 : IVec S128x256 8) natLt_8_32) (broadcast S128x256 15#32)) shapeCasts_S128x256_S128x1x256⟩,
     ⟨S128x1x256, shapeCast S128x1x256 (shrsi (extui 32 (transpose S128x256 [1, 0] v transposes_S256x128_p1_0_S128x256 : IVec S128x256 8) natLt_8_32) (broadcast S128x256 4#32)) shapeCasts_S128x256_S128x1x256⟩]
    concatenates_S128x1x256_S128x1x256_S128x2x256_d1) shapeCasts_S128x2x256_S256x256)

/-- Step `k`'s dequantized weights. -/
def wmat (x1 : Vec F S256x2304 .i8) (x2 x3 : Vec F S144x256 .bf16) (k : Nat) (h : k < 18) : FVec F S256x256 .bf16 :=
  addf (mulf (qmat (F := F) (View.ld x1 (Rect.unit ![0, k * 128] S256x128.size (fun a => match a with
    | ⟨0, _⟩ => (show 0 + 256 ≤ 256 from le_refl _)
    | ⟨1, _⟩ => (show k * 128 + 128 ≤ 2304 by omega))))) (smat x2 k h)) (smat x3 k h)

/-- Step `k`'s columns of the activations. -/
def xmat (x0 : Vec F S128x4608 .bf16) (k : Nat) (h : k < 18) : FVec F S128x256 .bf16 :=
  shapeCast S128x256 (View.ld x0 (Rect.unit ![0, k * 256] S128x256.size (fun a => match a with
    | ⟨0, _⟩ => (show 0 + 128 ≤ 128 from le_refl _)
    | ⟨1, _⟩ => (show k * 256 + 256 ≤ 4608 by omega)))) shapeCasts_S128x256_S128x256

/-- One step: the running block plus the step's product. -/
def step (x0 : Vec F S128x4608 .bf16) (x1 : Vec F S256x2304 .i8) (x2 x3 : Vec F S144x256 .bf16) (k : Nat) (h : k < 18) (acc : FVec F S128x256 .f32) : FVec F S128x256 .f32 :=
  addf acc (matmul dot_S128x256_S256x256_S128x256_1_0_0_1_n_n none (xmat x0 k h) (wmat x1 x2 x3 k h) (constant S128x256 .f32 0x00000000#32))

/-- The running block after the first `k` steps. -/
def accN (x0 : Vec F S128x4608 .bf16) (x1 : Vec F S256x2304 .i8) (x2 x3 : Vec F S144x256 .bf16) : (k : Nat) → k ≤ 18 → FVec F S128x256 .f32
  | 0, _ => broadcast S128x256 (Scalar.ofBits .f32 0x00000000#32)
  | k + 1, h => step x0 x1 x2 x3 k h (accN x0 x1 x2 x3 k (Nat.le_of_lt h))

/-- The block's 256 logits. -/
def acc (x0 : Vec F S128x4608 .bf16) (x1 : Vec F S256x2304 .i8) (x2 x3 : Vec F S144x256 .bf16) : FVec F S128x256 .f32 :=
  accN x0 x1 x2 x3 18 (le_refl _)

/-- The block's first 128 columns. -/
def half0 (a : FVec F S128x256 .f32) : FVec F S128x128 .f32 := extractStridedSlice S128x128 ![0, 0] a slices_S128x256_o0_0_S128x128
/-- The block's last 128 columns. -/
def half1 (a : FVec F S128x256 .f32) : FVec F S128x128 .f32 := extractStridedSlice S128x128 ![0, 128] a slices_S128x256_o0_128_S128x128

/-- The running maxima after a block. -/
def stM1 (a : FVec F S128x256 .f32) (m1 : FVec F S128x128 .f32) : FVec F S128x128 .f32 :=
  maximumf (maximumf m1 (half0 a)) (half1 a)
/-- The running second maxima after a block. -/
def stM2 (a : FVec F S128x256 .f32) (m1 m2 : FVec F S128x128 .f32) : FVec F S128x128 .f32 :=
  maximumf (maximumf m2 (minimumf m1 (half0 a))) (minimumf (maximumf m1 (half0 a)) (half1 a))
/-- The running indices after a block. -/
def stId (p : BitVec 32) (a : FVec F S128x256 .f32) (m1 : FVec F S128x128 .f32) (ids : IVec S128x128 32) : IVec S128x128 32 :=
  select (cmpf .ogt (half1 a) (maximumf m1 (half0 a))) (broadcast S128x128 (Scalar.addi (Scalar.muli p 2#32) 1#32))
    (select (cmpf .ogt (half0 a) m1) (broadcast S128x128 (Scalar.addi (Scalar.muli p 2#32) 0#32)) ids)

/-- The fresh running maxima: minus infinity. -/
def ninf : FVec F S128x128 .f32 := broadcast S128x128 (Scalar.ofBits .f32 0xFF800000#32)
/-- The fresh running indices: zero. -/
def zid : IVec S128x128 32 := broadcast S128x128 0#32
/-- The point's index as the kernel's 32-bit word. -/
abbrev pw (i : grid0.Coords) : BitVec 32 := BitVec.ofNat 32 (i 0).val

set_option maxRecDepth 16384 in
set_option maxHeartbeats 2000000 in
/-- At the first point the running maxima become one block's update of minus infinity. -/
theorem sout0_A_0_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : cond0_0 i) (hc1 : ¬cond0_1 i)
    (x0 : Vec F S128x4608 .bf16) (x1 : Vec F S256x2304 .i8) (x2 : Vec F S144x256 .bf16) (x3 : Vec F S144x256 .bf16) :
    sout0_A_0 c i arg1 harg1 arg2 harg2 arg3 harg3 arg4 harg4 arg5 harg5 arg6 harg6 arg7 harg7 arg8 harg8 arg9 harg9 arg10 harg10 hc0 hc1 x0 x1 x2 x3 = stM1 (acc x0 x1 x2 x3) ninf := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x128) hz]
  simp only [View.readCov_unit_zero (S := S128x128) _ hz]
  simp only [View.readAt_eq_ld, harg1.read_unread, harg2.read_unread, harg3.read_unread, harg4.read_unread, harg8.read_unread, harg9.read_unread, harg10.read_unread, View.ld_unit_zero (S := S128x128) hz]
  unfold k0_pay617 k0_pay616 k0_pay612
  simp only [shapeCast_self]
  rfl

set_option maxRecDepth 16384 in
set_option maxHeartbeats 2000000 in
/-- At the first point the second maxima become one block's update of minus infinity. -/
theorem sout0_A_1_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : cond0_0 i) (hc1 : ¬cond0_1 i)
    (x0 : Vec F S128x4608 .bf16) (x1 : Vec F S256x2304 .i8) (x2 : Vec F S144x256 .bf16) (x3 : Vec F S144x256 .bf16) :
    sout0_A_1 c i arg1 harg1 arg2 harg2 arg3 harg3 arg4 harg4 arg5 harg5 arg6 harg6 arg7 harg7 arg8 harg8 arg9 harg9 arg10 harg10 hc0 hc1 x0 x1 x2 x3 = stM2 (acc x0 x1 x2 x3) ninf ninf := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x128) hz]
  simp only [View.readCov_unit_zero (S := S128x128) _ hz]
  simp only [View.readAt_eq_ld, harg1.read_unread, harg2.read_unread, harg3.read_unread, harg4.read_unread, harg8.read_unread, harg9.read_unread, harg10.read_unread, View.ld_unit_zero (S := S128x128) hz]
  unfold k0_pay618 k0_pay614 k0_pay612 k0_pay6 k0_pay7
  simp only [shapeCast_self]
  rfl

set_option maxRecDepth 16384 in
set_option maxHeartbeats 2000000 in
/-- At the first point the running indices become one block's update of zero. -/
theorem sout0_A_2_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : cond0_0 i) (hc1 : ¬cond0_1 i)
    (x0 : Vec F S128x4608 .bf16) (x1 : Vec F S256x2304 .i8) (x2 : Vec F S144x256 .bf16) (x3 : Vec F S144x256 .bf16) :
    sout0_A_2 c i arg1 harg1 arg2 harg2 arg3 harg3 arg4 harg4 arg5 harg5 arg6 harg6 arg7 harg7 arg8 harg8 arg9 harg9 arg10 harg10 hc0 hc1 x0 x1 x2 x3 = stId (pw i) (acc x0 x1 x2 x3) ninf zid := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x128) hz]
  simp only [View.readCov_unit_zero (S := S128x128) _ hz]
  simp only [View.readAt_eq_ld, harg1.read_unread, harg2.read_unread, harg3.read_unread, harg4.read_unread, harg8.read_unread, harg9.read_unread, harg10.read_unread, View.ld_unit_zero (S := S128x128) hz]
  unfold k0_pay1 k0_pay6 k0_pay8
  simp only [shapeCast_self]
  rfl

set_option maxRecDepth 16384 in
set_option maxHeartbeats 2000000 in
/-- At a middle point the running maxima become one block's update of what they were. -/
theorem sout0_B_0_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : ¬cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    sout0_B_0 c i arg1 harg1 arg2 harg2 arg3 harg3 arg4 harg4 arg5 harg5 arg6 harg6 arg7 harg7 arg8 harg8 arg9 harg9 arg10 harg10 hc0 hc1 x0 x1 x2 x3 xs0 xs1 xs2 = stM1 (acc x0 x1 x2 x3) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz]
  unfold k0_pay617 k0_pay616 k0_pay612
  rw [shapeCast_self]
  rfl

set_option maxRecDepth 16384 in
set_option maxHeartbeats 2000000 in
/-- At a middle point the second maxima become one block's update of what they were. -/
theorem sout0_B_1_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : ¬cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    sout0_B_1 c i arg1 harg1 arg2 harg2 arg3 harg3 arg4 harg4 arg5 harg5 arg6 harg6 arg7 harg7 arg8 harg8 arg9 harg9 arg10 harg10 hc0 hc1 x0 x1 x2 x3 xs0 xs1 xs2 = stM2 (acc x0 x1 x2 x3) xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz]
  unfold k0_pay618 k0_pay614 k0_pay612
  rw [shapeCast_self]
  rfl

set_option maxRecDepth 16384 in
set_option maxHeartbeats 2000000 in
/-- At a middle point the running indices become one block's update of what they were. -/
theorem sout0_B_2_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : ¬cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    sout0_B_2 c i arg1 harg1 arg2 harg2 arg3 harg3 arg4 harg4 arg5 harg5 arg6 harg6 arg7 harg7 arg8 harg8 arg9 harg9 arg10 harg10 hc0 hc1 x0 x1 x2 x3 xs0 xs1 xs2 = stId (pw i) (acc x0 x1 x2 x3) xs0 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz]
  unfold k0_pay1
  rw [shapeCast_self]
  rfl

/-- The lanes' token numbers. -/
def tokL (ids : IVec S128x128 32) : IVec S128x128 32 := addi (muli ids (broadcast S128x128 128#32)) (iota .tc S128x128 32 [1] iota_S128x128_d1_w32)
/-- The row's maximum over the lanes. -/
def topL (m1 : FVec F S128x128 .f32) : FVec F S128x1 .f32 :=
  shapeCast S128x1 (multiReduction .maximumf [1] S128 m1 0xFF800000#32 reduces_S128x128_S128 (.inl rfl) rfl) shapeCasts_S128_S128x1
/-- The least token number among the lanes that attain the maximum. -/
def bestL (m1 : FVec F S128x128 .f32) (ids : IVec S128x128 32) : IVec S128x1 32 :=
  shapeCast S128x1 (multiReductionI .minsi [1] S128 (select (cmpf .oeq m1 (broadcastTo S128x128 (topL m1) broadcasts_S128x1_S128x128)) (tokL ids) (broadcast S128x128 2147483647#32)) 2147483647#32 reduces_S128x128_S128 rfl) shapeCasts_S128_S128x1
/-- The row's maximum minus its second maximum. -/
def marginL (m1 m2 : FVec F S128x128 .f32) (ids : IVec S128x128 32) : FVec F S128x1 .f32 :=
  subf (topL m1) (shapeCast S128x1 (multiReduction .maximumf [1] S128 (select (cmpi .eq (tokL ids) (broadcastTo S128x128 (bestL m1 ids) broadcasts_S128x1_S128x128)) m2 m1) 0xFF800000#32 reduces_S128x128_S128 (.inl rfl) rfl) shapeCasts_S128_S128x1)

set_option maxRecDepth 16384 in
set_option maxHeartbeats 2000000 in
/-- At the last point the token result is the best of the updated running arrays. -/
theorem out0_C_4_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    out0_C_4 c i arg1 harg1 arg2 harg2 arg3 harg3 arg4 harg4 arg5 harg5 arg6 harg6 arg7 harg7 arg8 harg8 arg9 harg9 arg10 harg10 hc0 hc1 x0 x1 x2 x3 xs0 xs1 xs2 = bestL (stM1 (acc x0 x1 x2 x3) xs0) (stId (pw i) (acc x0 x1 x2 x3) xs0 xs2) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz, View.ld_unit_zero (S := S128x1) hz]
  rfl

set_option maxRecDepth 16384 in
set_option maxHeartbeats 2000000 in
/-- At the last point the margin result is that of the updated running arrays. -/
theorem out0_C_5_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    out0_C_5 c i arg1 harg1 arg2 harg2 arg3 harg3 arg4 harg4 arg5 harg5 arg6 harg6 arg7 harg7 arg8 harg8 arg9 harg9 arg10 harg10 hc0 hc1 x0 x1 x2 x3 xs0 xs1 xs2 = marginL (stM1 (acc x0 x1 x2 x3) xs0) (stM2 (acc x0 x1 x2 x3) xs0 xs1) (stId (pw i) (acc x0 x1 x2 x3) xs0 xs2) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz, View.ld_unit_zero (S := S128x1) hz]
  rfl

set_option maxRecDepth 16384 in
set_option maxHeartbeats 2000000 in
/-- At the last point the top result is that of the updated running maxima. -/
theorem out0_C_6_eq (c : Dev nD) (i : grid0.Coords) (arg1 : Memref sig .tc .vmem S128x4608 .bf16) (harg1 : arg1.IsWhole) (arg2 : Memref sig .tc .vmem S256x2304 .i8) (harg2 : arg2.IsWhole) (arg3 : Memref sig .tc .vmem S144x256 .bf16) (harg3 : arg3.IsWhole) (arg4 : Memref sig .tc .vmem S144x256 .bf16) (harg4 : arg4.IsWhole)
    (arg5 : Memref sig .tc .vmem S128x1 .i32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .i32) (harg10 : arg10.IsWhole) (hc0 : ¬cond0_0 i) (hc1 : cond0_1 i)
    (x0 : Vec F S128x4608 .bf16) (x1 : Vec F S256x2304 .i8) (x2 : Vec F S144x256 .bf16) (x3 : Vec F S144x256 .bf16) (xs0 : Vec F S128x128 .f32) (xs1 : Vec F S128x128 .f32) (xs2 : Vec F S128x128 .i32) :
    out0_C_6 c i arg1 harg1 arg2 harg2 arg3 harg3 arg4 harg4 arg5 harg5 arg6 harg6 arg7 harg7 arg8 harg8 arg9 harg9 arg10 harg10 hc0 hc1 x0 x1 x2 x3 xs0 xs1 xs2 = topL (stM1 (acc x0 x1 x2 x3) xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg8.read_unread, harg9.read_unread, harg10.read_unread, View.ld_unit_zero (S := S128x128) hz, View.ld_unit_zero (S := S128x1) hz]
  rfl

end Cert.KernelIdeal.Value
end
-- ==== Proof.State.lean ====
/- The run's three results as one recursion over the 125 grid points: each point updates the three running arrays by its
   block's 256 logits, and the results are read off the arrays after the last point. -/
module

public import proofs.«01_k».proof.Proof.Step

@[expose] public section
noncomputable section
namespace Cert.KernelIdeal.Value
open Cert.KernelIdeal Cert.KernelIdeal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ)

/-- Grid point `t`'s logits: the block's own. -/
def blkAcc (c : Dev nD) (t : Fin cfg0.N) : FVec F S128x256 .f32 :=
  acc (iblk m c 0 t) (iblk m c 1 t) (iblk m c 2 t) (iblk m c 3 t)

/-- The three running arrays: maxima, second maxima, indices. -/
abbrev St (F : FTy → Type) [FloatOps F] := FVec F S128x128 .f32 × FVec F S128x128 .f32 × IVec S128x128 32

/-- The running arrays updated by one block. -/
def upd (p : BitVec 32) (a : FVec F S128x256 .f32) (s : St F) : St F :=
  (stM1 a s.1, stM2 a s.1 s.2.1, stId p a s.1 s.2.2)

/-- The running arrays after points `0, …, n`. -/
def stAfter (c : Dev nD) : (n : ℕ) → n < cfg0.N → St F
  | 0, h => upd (pw (grid0.coords ⟨0, h⟩)) (blkAcc m c ⟨0, h⟩) (ninf, ninf, zid)
  | n + 1, h => upd (pw (grid0.coords ⟨n + 1, h⟩)) (blkAcc m c ⟨n + 1, h⟩) (stAfter c n (Nat.lt_of_succ_lt h))

/-- The first point leaves the first running arrays. -/
theorem stA (c : Dev nD) (t : Fin cfg0.N) (a) (h0 : t.val % 125 = 0) (h1 : ¬t.val % 125 = 124) :
    (stAt0 m c t.val t.isLt a).2.2.2 = upd (pw (grid0.coords t)) (blkAcc m c t) (ninf, ninf, zid) := by
  rw [stAt0_A m c t a h0 h1]
  dsimp only
  rw [sout0_A_0_eq, sout0_A_1_eq, sout0_A_2_eq]
  rfl

/-- A middle point updates the running arrays it found. -/
theorem stB (c : Dev nD) (t : Fin cfg0.N) (a) (h0 : ¬t.val % 125 = 0) (h1 : ¬t.val % 125 = 124) :
    (stAt0 m c t.val t.isLt a).2.2.2 = upd (pw (grid0.coords t)) (blkAcc m c t) a.2.2.2 := by
  rw [stAt0_B m c t a h0 h1]
  dsimp only
  rw [sout0_B_0_eq, sout0_B_1_eq, sout0_B_2_eq]
  rfl

/-- The last point's results are read off the arrays it updates. -/
theorem stC (c : Dev nD) (t : Fin cfg0.N) (a) (h0 : ¬t.val % 125 = 0) (h1 : t.val % 125 = 124) :
    let s := upd (pw (grid0.coords t)) (blkAcc m c t) a.2.2.2
    (stAt0 m c t.val t.isLt a).1 = bestL s.1 s.2.2
      ∧ (stAt0 m c t.val t.isLt a).2.1 = marginL s.1 s.2.1 s.2.2
      ∧ (stAt0 m c t.val t.isLt a).2.2.1 = topL s.1 := by
  rw [stAt0_C m c t a h0 h1]
  dsimp only
  rw [out0_C_4_eq, out0_C_5_eq, out0_C_6_eq]
  exact ⟨rfl, rfl, rfl⟩

/-- One step of the generated recursion, at its point. -/
theorem accAt_step (c : Dev nD) (n k : ℕ) (h : 0 + (n + 1) < cfg0.N) (hk : k < cfg0.N) (e : k = n + 1) :
    Pipeline.accAt (fun n h => stAt0 m c n h junk0) (stAt0 m c) 0 (n + 1) h
      = stAt0 m c k hk (Pipeline.accAt (fun n h => stAt0 m c n h junk0) (stAt0 m c) 0 n (Nat.lt_of_succ_lt h)) := by
  rw [Pipeline.accAt_succ]
  obtain rfl : k = 0 + (n + 1) := by omega
  rfl

/-- The generated recursion's running arrays are `stAfter`, before the last point. -/
theorem accAt_st (c : Dev nD) (n : ℕ) (h : 0 + n < cfg0.N) (hn : n < 124) :
    (Pipeline.accAt (fun n h => stAt0 m c n h junk0) (stAt0 m c) 0 n h).2.2.2 = stAfter m c n (by omega) := by
  induction n with
  | zero =>
    rw [Pipeline.accAt_zero]
    exact stA m c ⟨0, h⟩ junk0 (by simp) (by simp)
  | succ n ih =>
    have hk : n + 1 < cfg0.N := by omega
    rw [accAt_step m c n (n + 1) h hk rfl]
    refine (stB m c ⟨n + 1, hk⟩ _ (by show ¬ (n + 1) % 125 = 0; omega) (by show ¬ (n + 1) % 125 = 124; omega)).trans ?_
    rw [ih (by omega) (by omega)]
    rfl

/-- The running arrays after one more point. -/
theorem stAfter_succ (c : Dev nD) (n : ℕ) (h : n + 1 < cfg0.N) : stAfter m c (n + 1) h
    = upd (pw (grid0.coords ⟨n + 1, h⟩)) (blkAcc m c ⟨n + 1, h⟩) (stAfter m c n (Nat.lt_of_succ_lt h)) := rfl

/-- The three results, off the running arrays after point `k`, the last. -/
theorem results_at (c : Dev nD) (n : ℕ) (hn : n = 123) (h : 0 + (n + 1) < cfg0.N) (hk : n + 1 < cfg0.N) (s) (hs : s = stAfter m c (n + 1) hk) (r)
    (hr : r = Pipeline.accAt (fun n h => stAt0 m c n h junk0) (stAt0 m c) 0 (n + 1) h) :
    r.1 = bestL s.1 s.2.2 ∧ r.2.1 = marginL s.1 s.2.1 s.2.2 ∧ r.2.2.1 = topL s.1 := by
  have := stC m c ⟨n + 1, hk⟩ (Pipeline.accAt (fun n h => stAt0 m c n h junk0) (stAt0 m c) 0 n (by omega))
    (by show ¬ (n + 1) % 125 = 0; omega) (by show (n + 1) % 125 = 124; omega)
  rw [accAt_st m c n _ (by omega), ← stAfter_succ m c n hk, ← accAt_step m c n (n + 1) h hk rfl, ← hs, ← hr] at this
  exact this

/-- The running arrays after the last point. -/
def stLast (c : Dev nD) : St F := stAfter m c 124 (lt_of_lt_of_eq (by decide) N_0.symm)

/-- The three results, off the running arrays after the last point. -/
theorem results (c : Dev nD) : G4 m c = bestL (stLast m c).1 (stLast m c).2.2
    ∧ G5 m c = marginL (stLast m c).1 (stLast m c).2.1 (stLast m c).2.2 ∧ G6 m c = topL (stLast m c).1 := by
  rw [G4_last, G5_last, G6_last]
  exact results_at m c 123 rfl (lt_of_lt_of_eq (by decide) N_0.symm) (lt_of_lt_of_eq (by decide) N_0.symm) _ rfl _ rfl

end Cert.KernelIdeal.Value
-- ==== Proof.Top2.lean ====
/- The mathematics of the top-1 search, over the extended reals and apart from any program: a running maximum, a running
   second maximum and a running index per lane find, over all lanes together, the maximum, its first position and the
   maximum of the rest. -/
module

public import Idealize.ShloMosaic.PureOps.Ideal.Laws

@[expose] public section
noncomputable section
namespace Cert.Top2

/-- The maximum of the first `n` values. -/
def mx (v : ℕ → EReal) (n : ℕ) : EReal := (Finset.range n).sup v
/-- The maximum of the first `n` values but the one at `k`. -/
def mxBut (v : ℕ → EReal) (n k : ℕ) : EReal := ((Finset.range n).erase k).sup v

/-- `k` is the first position of the maximum of the first `n` values. -/
structure First (v : ℕ → EReal) (n k : ℕ) : Prop where
  lt : k < n
  eq : v k = mx v n
  before : ∀ j < k, v j < mx v n

/-- Every value is at most the maximum. -/
theorem le_mx (v : ℕ → EReal) {n j : ℕ} (h : j < n) : v j ≤ mx v n := Finset.le_sup (Finset.mem_range.2 h)
/-- One more value. -/
theorem mx_succ (v : ℕ → EReal) (n : ℕ) : mx v (n + 1) = max (mx v n) (v n) := by
  unfold mx; rw [Finset.range_add_one, Finset.sup_insert, max_comm]
/-- One more value, not at `k`. -/
theorem mxBut_succ_ne (v : ℕ → EReal) {n k : ℕ} (h : k ≠ n) : mxBut v (n + 1) k = max (mxBut v n k) (v n) := by
  unfold mxBut; rw [Finset.range_add_one, Finset.erase_insert_of_ne h.symm, Finset.sup_insert, max_comm]
/-- One more value, at `k` itself. -/
theorem mxBut_succ_self (v : ℕ → EReal) (n : ℕ) : mxBut v (n + 1) n = mx v n := by
  unfold mxBut mx; rw [Finset.range_add_one, Finset.erase_insert (by simp)]
/-- Dropping a value does not raise the maximum. -/
theorem mxBut_le (v : ℕ → EReal) (n k : ℕ) : mxBut v n k ≤ mx v n := Finset.sup_mono (Finset.erase_subset _ _)

/-- The first position of the maximum is unique. -/
theorem First.unique {v : ℕ → EReal} {n k k' : ℕ} (h : First v n k) (h' : First v n k') : k = k' := by
  rcases lt_trichotomy k k' with hl | hl | hl
  · exact absurd h.eq (h'.before k hl).ne
  · exact hl
  · exact absurd h'.eq (h.before k' hl).ne

/-- One value taken into a lane's maximum, second maximum and index. -/
def laneStep (j : ℕ) (x : EReal) (s : EReal × EReal × ℕ) : EReal × EReal × ℕ :=
  (max s.1 x, max s.2.1 (min s.1 x), if s.1 < x then j else s.2.2)

/-- A lane after its first `n` values. -/
def lane (v : ℕ → EReal) : ℕ → EReal × EReal × ℕ
  | 0 => (⊥, ⊥, 0)
  | n + 1 => laneStep n (v n) (lane v n)

/-- A lane holds the maximum, the maximum of the rest, and the first position of the maximum. -/
theorem lane_spec (v : ℕ → EReal) (n : ℕ) :
    (lane v (n + 1)).1 = mx v (n + 1) ∧ (lane v (n + 1)).2.1 = mxBut v (n + 1) (lane v (n + 1)).2.2
      ∧ First v (n + 1) (lane v (n + 1)).2.2 := by
  induction n with
  | zero =>
    have hm : mx v 1 = v 0 := by simp [mx]
    have hid : (lane v 1).2.2 = 0 := by
      show (if (⊥ : EReal) < v 0 then 0 else 0) = 0
      exact ite_self 0
    rw [hid]
    refine ⟨by simp [lane, laneStep, hm], by simp [lane, laneStep, mxBut], ⟨by omega, hm.symm, fun j h => by omega⟩⟩
  | succ n ih =>
    obtain ⟨h1, h2, h3⟩ := ih
    have e1 : (lane v (n + 1 + 1)).1 = max (lane v (n + 1)).1 (v (n + 1)) := rfl
    have e2 : (lane v (n + 1 + 1)).2.1 = max (lane v (n + 1)).2.1 (min (lane v (n + 1)).1 (v (n + 1))) := rfl
    have e3 : (lane v (n + 1 + 1)).2.2 = if (lane v (n + 1)).1 < v (n + 1) then n + 1 else (lane v (n + 1)).2.2 := rfl
    rw [e1, e2, e3, h1]
    refine ⟨(mx_succ _ _).symm, ?_, ?_⟩
    · split_ifs with hc
      · rw [mxBut_succ_self, min_eq_left hc.le, h2, max_eq_right (mxBut_le _ _ _)]
      · rw [mxBut_succ_ne _ h3.lt.ne, h2, min_eq_right (not_lt.1 hc)]
    · split_ifs with hc
      · refine ⟨by omega, by rw [mx_succ, max_eq_right hc.le], fun j hj => ?_⟩
        rw [mx_succ, max_eq_right hc.le]
        exact lt_of_le_of_lt (le_mx v hj) hc
      · have hm : mx v (n + 1 + 1) = mx v (n + 1) := by rw [mx_succ, max_eq_left (not_lt.1 hc)]
        exact ⟨by have := h3.lt; omega, by rw [hm, h3.eq], fun j hj => by rw [hm]; exact h3.before j hj⟩

/-- Lane `a`'s values: every 128th. -/
def col (l : ℕ → EReal) (a : ℕ) : ℕ → EReal := fun j => l (j * 128 + a)

variable (l : ℕ → EReal) (n : ℕ)
/-- Lane `a`'s maximum after its `n + 1` values. -/
def m1 (a : ℕ) : EReal := (lane (col l a) (n + 1)).1
/-- Lane `a`'s second maximum. -/
def m2 (a : ℕ) : EReal := (lane (col l a) (n + 1)).2.1
/-- Lane `a`'s first best position, over all values. -/
def tk (a : ℕ) : ℕ := (lane (col l a) (n + 1)).2.2 * 128 + a

/-- A lane's best position lies among all values. -/
theorem tk_lt {a : ℕ} (ha : a < 128) : tk l n a < (n + 1) * 128 := by
  have := (lane_spec (col l a) n).2.2.lt; unfold tk; omega

/-- The value at a lane's best position is the lane's maximum. -/
theorem l_tk (a : ℕ) : l (tk l n a) = m1 l n a := by
  have h := lane_spec (col l a) n
  show col l a _ = _
  rw [h.2.2.eq, ← h.1]; rfl

/-- Every value is at most its lane's maximum. -/
theorem le_m1 {i : ℕ} (hi : i < (n + 1) * 128) : l i ≤ m1 l n (i % 128) := by
  have h := lane_spec (col l (i % 128)) n
  unfold m1; rw [h.1]
  have := le_mx (col l (i % 128)) (n := n + 1) (j := i / 128) (by omega)
  unfold col at this
  rwa [Nat.div_add_mod' i 128] at this

/-- The lanes' maxima have the values' maximum. -/
theorem top_eq : (Finset.range 128).sup (m1 l n) = mx l ((n + 1) * 128) := by
  apply le_antisymm
  · refine Finset.sup_le fun a ha => ?_
    rw [← l_tk l n]; exact le_mx l (tk_lt l n (Finset.mem_range.1 ha))
  · refine Finset.sup_le fun i hi => ?_
    exact (le_m1 l n (Finset.mem_range.1 hi)).trans (Finset.le_sup (f := m1 l n) (Finset.mem_range.2 (by omega)))

/-- The least best position among the lanes that attain the maximum is the first position of the maximum. -/
theorem first_of_least {a : ℕ} (ha : a < 128) (htop : m1 l n a = mx l ((n + 1) * 128))
    (hmin : ∀ b < 128, m1 l n b = mx l ((n + 1) * 128) → tk l n a ≤ tk l n b) : First l ((n + 1) * 128) (tk l n a) := by
  refine ⟨tk_lt l n ha, by rw [l_tk l n, htop], fun i hi => ?_⟩
  have hin : i < (n + 1) * 128 := hi.trans (tk_lt l n ha)
  refine lt_of_le_of_ne (le_mx l hin) fun he => ?_
  have hb : i % 128 < 128 := by omega
  have hm : m1 l n (i % 128) = mx l ((n + 1) * 128) :=
    le_antisymm (by rw [← l_tk l n]; exact le_mx l (tk_lt l n hb)) (by rw [← he]; exact le_m1 l n hin)
  have h1 := hmin _ hb hm
  have hs := lane_spec (col l (i % 128)) n
  have h2 : (lane (col l (i % 128)) (n + 1)).2.2 ≤ i / 128 := by
    by_contra hlt
    have := hs.2.2.before (i / 128) (by omega)
    rw [← hs.1] at this
    have h3 : col l (i % 128) (i / 128) = l i := by unfold col; rw [Nat.div_add_mod' i 128]
    rw [h3, he, ← hm] at this
    exact lt_irrefl _ this
  unfold tk at h1 hi
  have := Nat.div_add_mod i 128
  omega

/-- A lane that attains the maximum exists. -/
theorem exists_top : ∃ a < 128, m1 l n a = mx l ((n + 1) * 128) := by
  rw [← top_eq]
  obtain ⟨a, ha, h⟩ := Finset.exists_mem_eq_sup (Finset.range 128) ⟨0, by simp⟩ (m1 l n)
  exact ⟨a, Finset.mem_range.1 ha, h.symm⟩

/-- The lanes' maxima, the best lane's replaced by its second maximum, have the maximum of all values but the best. -/
theorem second_eq {k : ℕ} (hk : ∃ a < 128, k = tk l n a) :
    (Finset.range 128).sup (fun b => if tk l n b = k then m2 l n b else m1 l n b) = mxBut l ((n + 1) * 128) k := by
  obtain ⟨a, ha, rfl⟩ := hk
  apply le_antisymm
  · refine Finset.sup_le fun b hb => ?_
    have hb := Finset.mem_range.1 hb
    have hs := lane_spec (col l b) n
    split_ifs with hc
    · have hab : b = a := by unfold tk at hc; omega
      subst hab
      unfold m2; rw [hs.2.1]
      refine Finset.sup_le fun j hj => ?_
      have hj' := Finset.mem_erase.1 hj
      have hjr := Finset.mem_range.1 hj'.2
      refine Finset.le_sup (f := l) (Finset.mem_erase.2 ⟨?_, Finset.mem_range.2 (by omega)⟩)
      unfold tk; have := hj'.1; omega
    · rw [← l_tk l n]
      exact Finset.le_sup (f := l) (Finset.mem_erase.2 ⟨hc, Finset.mem_range.2 (tk_lt l n hb)⟩)
  · refine Finset.sup_le fun i hi => ?_
    have hi' := Finset.mem_erase.1 hi
    have hir := Finset.mem_range.1 hi'.2
    have hb : i % 128 < 128 := by omega
    refine le_trans ?_ (Finset.le_sup (f := fun b => if tk l n b = tk l n a then m2 l n b else m1 l n b) (Finset.mem_range.2 hb))
    have hs := lane_spec (col l (i % 128)) n
    split_ifs with hc
    · unfold m2; rw [hs.2.1]
      have h3 : col l (i % 128) (i / 128) = l i := by unfold col; rw [Nat.div_add_mod' i 128]
      rw [← h3]
      refine Finset.le_sup (f := col l (i % 128)) (Finset.mem_erase.2 ⟨?_, Finset.mem_range.2 (by omega)⟩)
      intro he
      apply hi'.1
      rw [← hc]
      unfold tk
      rw [← he]; omega
    · exact le_m1 l n hir

/-- A scan that keeps the earlier of equal maxima finds the maximum and its first position. -/
def scanStep (j : ℕ) (x : EReal) (s : EReal × ℕ) : EReal × ℕ :=
  (if x < s.1 then s.1 else x, if x < s.1 ∨ (s.1 = x ∧ s.2 < j) then s.2 else j)

/-- The scan after the first `n` values, from minus infinity at position zero. -/
def scan (v : ℕ → EReal) : ℕ → EReal × ℕ
  | 0 => (⊥, 0)
  | n + 1 => scanStep n (v n) (scan v n)

/-- The scan's result. -/
theorem scan_spec (v : ℕ → EReal) (n : ℕ) : (scan v (n + 1)).1 = mx v (n + 1) ∧ First v (n + 1) (scan v (n + 1)).2 := by
  induction n with
  | zero =>
    have hm : mx v 1 = v 0 := by simp [mx]
    have hid : (scan v 1).2 = 0 := by simp [scan, scanStep]
    rw [hid]
    exact ⟨by simp [scan, scanStep, hm], ⟨by omega, hm.symm, fun j h => by omega⟩⟩
  | succ n ih =>
    obtain ⟨h1, h3⟩ := ih
    have e1 : (scan v (n + 1 + 1)).1 = if v (n + 1) < (scan v (n + 1)).1 then (scan v (n + 1)).1 else v (n + 1) := rfl
    have e3 : (scan v (n + 1 + 1)).2 = if v (n + 1) < (scan v (n + 1)).1 ∨ ((scan v (n + 1)).1 = v (n + 1) ∧ (scan v (n + 1)).2 < n + 1)
      then (scan v (n + 1)).2 else n + 1 := rfl
    rw [e1, e3, h1]
    have hlt := h3.lt
    constructor
    · split_ifs with hc
      · rw [mx_succ _ (n + 1), max_eq_left hc.le]
      · rw [mx_succ _ (n + 1), max_eq_right (not_lt.1 hc)]
    · split_ifs with hc
      · have hle : v (n + 1) ≤ mx v (n + 1) := hc.elim le_of_lt fun h => h.1.ge
        have hm : mx v (n + 1 + 1) = mx v (n + 1) := by rw [mx_succ, max_eq_left hle]
        exact ⟨by omega, by rw [hm, h3.eq], fun j hj => by rw [hm]; exact h3.before j hj⟩
      · have hgt : mx v (n + 1) < v (n + 1) := by
          rw [not_or, not_and] at hc
          exact lt_of_le_of_ne (not_lt.1 hc.1) fun he => hc.2 he hlt
        refine ⟨by omega, by rw [mx_succ, max_eq_right hgt.le], fun j hj => ?_⟩
        rw [mx_succ, max_eq_right hgt.le]
        exact lt_of_le_of_lt (le_mx v hj) hgt

/-- Masking the value at `k` by minus infinity leaves the maximum of the others. -/
theorem mx_mask (v : ℕ → EReal) (n k : ℕ) : mx (fun j => if j = k then ⊥ else v j) n = mxBut v n k := by
  apply le_antisymm
  · refine Finset.sup_le fun j hj => ?_
    split_ifs with hc
    · exact bot_le
    · exact Finset.le_sup (f := v) (Finset.mem_erase.2 ⟨hc, hj⟩)
  · refine Finset.sup_le fun j hj => ?_
    have hj' := Finset.mem_erase.1 hj
    refine le_trans ?_ (Finset.le_sup (f := fun j => if j = k then ⊥ else v j) hj'.2)
    simp [hj'.1]

/-- The maximum of the first `n` values depends on those alone. -/
theorem mx_congr {v w : ℕ → EReal} {n : ℕ} (h : ∀ j < n, v j = w j) : mx v n = mx w n :=
  Finset.sup_congr rfl fun j hj => h j (Finset.mem_range.1 hj)

end Cert.Top2
-- ==== Proof.Lanes.lean ====
/- The running arrays over the extended reals: at every row and lane they are the running maximum, second maximum and
   index of the lane's logits. -/
module

public import proofs.«01_k».proof.Proof.State
public import proofs.«01_k».proof.Proof.Top2
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem

/-- The running maximum at a row and lane, after a block. -/
theorem upd_m1 (p : BitVec 32) (a : FVec Ideal S128x256 .f32) (s : St Ideal) (r b : Fin 128) (b0 b1 : Fin 256)
    (h0 : b0.val = b.val) (h1 : b1.val = 128 + b.val) :
    (upd p a s).1 (ix2 r b) = max (max (s.1 (ix2 r b)) (a (ix2 r b0))) (a (ix2 r b1)) := by
  rw [show b0 = ⟨b.val, lt_of_lt_of_le b.isLt (by decide)⟩ from Fin.ext h0,
    show b1 = ⟨128 + b.val, Nat.add_lt_add_left b.isLt 128⟩ from Fin.ext h1]
  pointwise [upd, stM1, half0, half1]

/-- The running second maximum at a row and lane, after a block. -/
theorem upd_m2 (p : BitVec 32) (a : FVec Ideal S128x256 .f32) (s : St Ideal) (r b : Fin 128) (b0 b1 : Fin 256)
    (h0 : b0.val = b.val) (h1 : b1.val = 128 + b.val) :
    (upd p a s).2.1 (ix2 r b) = max (max (s.2.1 (ix2 r b)) (min (s.1 (ix2 r b)) (a (ix2 r b0))))
      (min (max (s.1 (ix2 r b)) (a (ix2 r b0))) (a (ix2 r b1))) := by
  rw [show b0 = ⟨b.val, lt_of_lt_of_le b.isLt (by decide)⟩ from Fin.ext h0,
    show b1 = ⟨128 + b.val, Nat.add_lt_add_left b.isLt 128⟩ from Fin.ext h1]
  pointwise [upd, stM2, half0, half1]

/-- The running index at a row and lane, after a block. -/
theorem upd_id (p : BitVec 32) (a : FVec Ideal S128x256 .f32) (s : St Ideal) (r b : Fin 128) (b0 b1 : Fin 256)
    (h0 : b0.val = b.val) (h1 : b1.val = 128 + b.val) :
    (upd p a s).2.2 (ix2 r b) = if max (s.1 (ix2 r b)) (a (ix2 r b0)) < a (ix2 r b1) then Scalar.addi (Scalar.muli p 2#32) 1#32
      else if s.1 (ix2 r b) < a (ix2 r b0) then Scalar.addi (Scalar.muli p 2#32) 0#32 else s.2.2 (ix2 r b) := by
  rw [show b0 = ⟨b.val, lt_of_lt_of_le b.isLt (by decide)⟩ from Fin.ext h0,
    show b1 = ⟨128 + b.val, Nat.add_lt_add_left b.isLt 128⟩ from Fin.ext h1]
  pointwise [upd, stId, half0, half1]

/-- Point `t`'s index word. -/
theorem pw_coords (t : Fin cfg0.N) : pw (grid0.coords t) = BitVec.ofNat 32 t.val := by
  have ht : t.val < 125 := Nat.lt_of_lt_of_eq t.isLt N_0
  have e0 : (grid0.coords t 0).val = t.val / 1 % 125 := Pipeline.Grid.coords_val t 0 (by decide) rfl
  unfold pw
  rw [e0, Nat.div_one, Nat.mod_eq_of_lt ht]

/-- The word of an even lane position. -/
theorem word_even (n : ℕ) : Scalar.addi (Scalar.muli (BitVec.ofNat 32 n) 2#32) 0#32 = BitVec.ofNat 32 (2 * n) := by
  show BitVec.ofNat 32 n * 2#32 + 0#32 = _
  rw [BitVec.add_zero, Nat.mul_comm, BitVec.ofNat_mul]
/-- The word of an odd lane position. -/
theorem word_odd (n : ℕ) : Scalar.addi (Scalar.muli (BitVec.ofNat 32 n) 2#32) 1#32 = BitVec.ofNat 32 (2 * n + 1) := by
  show BitVec.ofNat 32 n * 2#32 + 1#32 = _
  rw [BitVec.ofNat_add, Nat.mul_comm, BitVec.ofNat_mul]

variable (m : (ℓ : Loc nD τ sig) → Buf (Elt Ideal) ℓ) (c : Dev nD)

/-- One block's update of a lane: two of its logits. -/
theorem upd_lane (a : FVec Ideal S128x256 .f32) (s : St Ideal) (r b : Fin 128) (v : ℕ → EReal) (n : ℕ)
    (ha : ∀ q : Fin 256, ∀ j, q.val = j * 128 + b.val → a (ix2 r q) = v (2 * n + j))
    (h1 : s.1 (ix2 r b) = (Top2.lane v (2 * n)).1) (h2 : s.2.1 (ix2 r b) = (Top2.lane v (2 * n)).2.1)
    (h3 : s.2.2 (ix2 r b) = BitVec.ofNat 32 (Top2.lane v (2 * n)).2.2) :
    (upd (BitVec.ofNat 32 n) a s).1 (ix2 r b) = (Top2.lane v (2 * n + 2)).1
      ∧ (upd (BitVec.ofNat 32 n) a s).2.1 (ix2 r b) = (Top2.lane v (2 * n + 2)).2.1
      ∧ (upd (BitVec.ofNat 32 n) a s).2.2 (ix2 r b) = BitVec.ofNat 32 (Top2.lane v (2 * n + 2)).2.2 := by
  have hb := b.isLt
  have e0 : a (ix2 r ⟨b.val, by omega⟩) = v (2 * n) := ha _ 0 (by simp)
  have e1 : a (ix2 r ⟨128 + b.val, by omega⟩) = v (2 * n + 1) := ha _ 1 (by simp)
  rw [upd_m1 _ a s r b ⟨b.val, by omega⟩ ⟨128 + b.val, by omega⟩ rfl rfl, upd_m2 _ a s r b ⟨b.val, by omega⟩ ⟨128 + b.val, by omega⟩ rfl rfl,
    upd_id _ a s r b ⟨b.val, by omega⟩ ⟨128 + b.val, by omega⟩ rfl rfl, word_even, word_odd, e0, e1, h1, h2, h3]
  refine ⟨rfl, rfl, ?_⟩
  show _ = BitVec.ofNat 32 (if max (Top2.lane v (2 * n)).1 (v (2 * n)) < v (2 * n + 1) then 2 * n + 1
    else if (Top2.lane v (2 * n)).1 < v (2 * n) then 2 * n else (Top2.lane v (2 * n)).2.2)
  split_ifs <;> rfl

/-- The lanes start from minus infinity. -/
theorem ninf_apply (i : S128x128.Idx) : (ninf : FVec Ideal S128x128 .f32) i = ⊥ := by
  show Ideal.ofBits .f32 0xFF800000#32 = ⊥
  simp [Ideal.ofBits, Ideal.ieee]

/-- After point `n` every lane holds its first `2 * n + 2` logits' maximum, second maximum and best position. -/
theorem stAfter_lane (L : Fin 128 → ℕ → EReal)
    (hL : ∀ (t : Fin cfg0.N) (r : Fin 128) (q : Fin 256), blkAcc m c t (ix2 r q) = L r (256 * t.val + q.val))
    (r b : Fin 128) (n : ℕ) (h : n < cfg0.N) :
    (stAfter m c n h).1 (ix2 r b) = (Top2.lane (Top2.col (L r) b.val) (2 * n + 2)).1
      ∧ (stAfter m c n h).2.1 (ix2 r b) = (Top2.lane (Top2.col (L r) b.val) (2 * n + 2)).2.1
      ∧ (stAfter m c n h).2.2 (ix2 r b) = BitVec.ofNat 32 (Top2.lane (Top2.col (L r) b.val) (2 * n + 2)).2.2 := by
  have ha : ∀ (n : ℕ) (h : n < cfg0.N), ∀ q : Fin 256, ∀ j, q.val = j * 128 + b.val →
      blkAcc m c ⟨n, h⟩ (ix2 r q) = Top2.col (L r) b.val (2 * n + j) := by
    intro n h q j hq
    rw [hL]
    unfold Top2.col
    congr 1
    show 256 * n + q.val = _
    omega
  induction n with
  | zero =>
    unfold stAfter
    rw [pw_coords]
    exact upd_lane (blkAcc m c ⟨0, h⟩) (ninf, ninf, zid) r b _ 0 (ha 0 h) (ninf_apply (ix2 r b)) (ninf_apply (ix2 r b)) rfl
  | succ n ih =>
    rw [stAfter_succ, pw_coords]
    have := ih (Nat.lt_of_succ_lt h)
    exact upd_lane (blkAcc m c ⟨n + 1, h⟩) _ r b _ (n + 1) (ha (n + 1) h) this.1 this.2.1 this.2.2

/-- A fold of `max` from minus infinity over a range of lanes is the supremum. -/
theorem fold_max_eq (n : ℕ) (f : ℕ → EReal) :
    (Finset.univ : Finset (Fin n)).fold max (Ideal.ofBits .f32 0xFF800000#32) (fun x => f x.val) = (Finset.range n).sup f := by
  rw [show Ideal.ofBits .f32 0xFF800000#32 = ⊥ by simp [Ideal.ofBits, Ideal.ieee]]
  show (Finset.univ : Finset (Fin n)).sup (fun x => f x.val) = _
  apply le_antisymm
  · exact Finset.sup_le fun x _ => Finset.le_sup (f := f) (Finset.mem_range.2 x.isLt)
  · exact Finset.sup_le fun k hk => Finset.le_sup (f := fun x : Fin n => f x.val) (Finset.mem_univ ⟨k, Finset.mem_range.1 hk⟩)

/-- The row maximum, over the lanes. -/
theorem topL_apply (M : FVec Ideal S128x128 .f32) (r : Fin 128) (f : ℕ → EReal) (hf : ∀ b : Fin 128, M (ix2 r b) = f b.val) :
    topL M (ix2 r 0) = (Finset.range 128).sup f := by
  rw [← fold_max_eq]
  pointwise [topL]
  simp only [hf]

/-- The word of a natural number below 2³¹ reads as the number. -/
theorem toInt_ofNat_small {a : ℕ} (ha : a < 2 ^ 31) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

/-- The words of natural numbers below 2³¹ are ordered as the numbers. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  simp only [BitVec.slt, toInt_ofNat_small ha, toInt_ofNat_small hb, decide_eq_true_eq, Nat.cast_lt]
  split_ifs with h
  · rw [min_eq_left h.le]
  · rw [min_eq_right (not_lt.1 h)]

/-- A natural number's word, the number cut off at the greatest positive word. -/
def clampW (k : ℕ) : BitVec 32 := BitVec.ofNat 32 (min k 2147483647)

/-- Cutting off keeps minima. -/
theorem clampW_min (a b : ℕ) : clampW (min a b) = IntOp.minsi (clampW a) (clampW b) := by
  unfold clampW
  rw [minsi_ofNat (by omega) (by omega)]
  congr 1
  omega

/-- The fold of the signed minimum over words of small numbers, in closed form: the word of the least. -/
theorem fold_minsi (g : Fin 128 → ℕ) (a : Fin 128) (hmin : ∀ b, g a ≤ g b) (ha : g a < 2147483647) :
    (Finset.univ : Finset (Fin 128)).fold IntOp.minsi 2147483647#32 (fun x => clampW (g x)) = BitVec.ofNat 32 (g a) := by
  have h := Finset.fold_hom (op := (min : ℕ → ℕ → ℕ)) (op' := IntOp.minsi (w := 32)) (s := (Finset.univ : Finset (Fin 128)))
    (b := 2147483647) (f := g) (m := clampW) clampW_min
  have e : (Finset.univ : Finset (Fin 128)).fold min 2147483647 g = g a := by
    apply le_antisymm
    · exact (Finset.fold_min_le _).2 (Or.inr ⟨a, Finset.mem_univ _, le_refl _⟩)
    · exact (Finset.le_fold_min _).2 ⟨ha.le, fun b _ => hmin b⟩
  rw [e] at h
  refine Eq.trans h ?_
  unfold clampW
  rw [min_eq_left ha.le]

/-- The best lane's token number: the least among the lanes that attain the row's maximum. -/
theorem bestL_apply (M : FVec Ideal S128x128 .f32) (I : IVec S128x128 32) (r : Fin 128) (f : ℕ → EReal) (g : ℕ → ℕ)
    (hf : ∀ b : Fin 128, M (ix2 r b) = f b.val)
    (hg : ∀ b : Fin 128, IntOp.addi (IntOp.muli (I (ix2 r b)) 128#32) (BitVec.ofNat 32 b.val) = BitVec.ofNat 32 (g b.val))
    (hlt : ∀ b < 128, g b < 2147483647) (a : ℕ) (ha : a < 128) (htop : f a = (Finset.range 128).sup f)
    (hmin : ∀ b < 128, f b = (Finset.range 128).sup f → g a ≤ g b) : bestL M I (ix2 r 0) = BitVec.ofNat 32 (g a) := by
  pointwise [bestL, tokL]
  simp only [topL_apply M r f hf, hf, hg]
  have h := fold_minsi (fun b => if f b.val = (Finset.range 128).sup f then g b.val else 2147483647) ⟨a, ha⟩
    (fun b => by
      show (if f a = _ then _ else _) ≤ _
      rw [if_pos htop]
      split_ifs with hb
      · exact hmin b b.isLt hb
      · exact (hlt a ha).le)
    (by show (if f a = _ then _ else _) < _; rw [if_pos htop]; exact hlt a ha)
  dsimp only at h
  rw [if_pos htop] at h
  refine Eq.trans (congrArg (fun F => (Finset.univ : Finset (Fin 128)).fold IntOp.minsi 2147483647#32 F) ?_) h
  funext b
  by_cases hb : f b.val = (Finset.range 128).sup f
  · rw [if_pos hb, if_pos hb]
    unfold clampW
    rw [min_eq_left (hlt b b.isLt).le]
  · rw [if_neg hb, if_neg hb]
    unfold clampW
    rw [min_self]

/-- The margin: the row's maximum minus the maximum with the best lane's replaced by its second maximum. -/
theorem marginL_apply (M M2 : FVec Ideal S128x128 .f32) (I : IVec S128x128 32) (r : Fin 128) (f f2 : ℕ → EReal) (g : ℕ → ℕ) (k : ℕ)
    (hf : ∀ b : Fin 128, M (ix2 r b) = f b.val) (hf2 : ∀ b : Fin 128, M2 (ix2 r b) = f2 b.val)
    (hg : ∀ b : Fin 128, IntOp.addi (IntOp.muli (I (ix2 r b)) 128#32) (BitVec.ofNat 32 b.val) = BitVec.ofNat 32 (g b.val))
    (hlt : ∀ b < 128, g b < 2147483647) (hk : k < 2147483647) (hb : bestL M I (ix2 r 0) = BitVec.ofNat 32 k) :
    marginL M M2 I (ix2 r 0) = (Finset.range 128).sup f - (Finset.range 128).sup (fun b => if g b = k then f2 b else f b) := by
  pointwise [marginL, tokL]
  rw [topL_apply M r f hf, hb, ← fold_max_eq 128 (fun b => if g b = k then f2 b else f b)]
  simp only [hf, hf2, hg]
  refine congrArg (fun F => (Finset.range 128).sup f - (Finset.univ : Finset (Fin 128)).fold max (Ideal.ofBits .f32 0xFF800000#32) F) ?_
  funext b
  have hw : (BitVec.ofNat 32 (g b.val) = BitVec.ofNat 32 k) ↔ g b.val = k := by
    constructor
    · intro h
      have := congrArg BitVec.toNat h
      have hb := hlt b b.isLt
      rwa [BitVec.toNat_ofNat, BitVec.toNat_ofNat, Nat.mod_eq_of_lt (by omega), Nat.mod_eq_of_lt (by omega)] at this
    · intro h; rw [h]
  unfold Scalar.select IntOp.cmpi
  by_cases h : g b.val = k
  · simp [h]
  · have h' : (BitVec.ofNat 32 (g b.val) == BitVec.ofNat 32 k) = false := beq_eq_false_iff_ne.2 fun e => h (hw.1 e)
    simp [h, h']

/-- THE KERNEL'S RESULTS, row by row: for the row's logits `L r` over the 32000 columns, the token is the first column
    of the maximum, the top is the maximum, and the margin is the maximum minus the maximum of the other columns. -/
theorem results_rows (L : Fin 128 → ℕ → EReal)
    (hL : ∀ (t : Fin cfg0.N) (r : Fin 128) (q : Fin 256), blkAcc m c t (ix2 r q) = L r (256 * t.val + q.val)) (r : Fin 128) :
    ∃ k, Top2.First (L r) 32000 k
      ∧ bestL (stLast m c).1 (stLast m c).2.2 (ix2 r 0) = BitVec.ofNat 32 k
      ∧ marginL (stLast m c).1 (stLast m c).2.1 (stLast m c).2.2 (ix2 r 0) = Top2.mx (L r) 32000 - Top2.mxBut (L r) 32000 k
      ∧ topL (stLast m c).1 (ix2 r 0) = Top2.mx (L r) 32000 := by
  have hs := fun b : Fin 128 => stAfter_lane m c L hL r b 124 (lt_of_lt_of_eq (by decide) N_0.symm)
  have hf : ∀ b : Fin 128, (stLast m c).1 (ix2 r b) = Top2.m1 (L r) 249 b.val := fun b => (hs b).1
  have hf2 : ∀ b : Fin 128, (stLast m c).2.1 (ix2 r b) = Top2.m2 (L r) 249 b.val := fun b => (hs b).2.1
  have hg : ∀ b : Fin 128, IntOp.addi (IntOp.muli ((stLast m c).2.2 (ix2 r b)) 128#32) (BitVec.ofNat 32 b.val)
      = BitVec.ofNat 32 (Top2.tk (L r) 249 b.val) := fun b => by
    have e : (stLast m c).2.2 (ix2 r b) = BitVec.ofNat 32 (Top2.lane (Top2.col (L r) b.val) 250).2.2 := (hs b).2.2
    rw [e]
    show BitVec.ofNat 32 _ * 128#32 + _ = _
    unfold Top2.tk
    rw [BitVec.ofNat_add, BitVec.ofNat_mul]
  have hlt : ∀ b < 128, Top2.tk (L r) 249 b < 2147483647 := fun b hb => by
    have := Top2.tk_lt (L r) 249 hb; omega
  have hsup : (Finset.range 128).sup (Top2.m1 (L r) 249) = Top2.mx (L r) 32000 := Top2.top_eq (L r) 249
  obtain ⟨a0, ha0, h0⟩ := Top2.exists_top (L r) 249
  obtain ⟨a, ha, hmin⟩ := Finset.exists_min_image ((Finset.range 128).filter fun b => Top2.m1 (L r) 249 b = Top2.mx (L r) 32000)
    (Top2.tk (L r) 249) ⟨a0, Finset.mem_filter.2 ⟨Finset.mem_range.2 ha0, h0⟩⟩
  obtain ⟨ha1, ha2⟩ := Finset.mem_filter.1 ha
  have ha1 := Finset.mem_range.1 ha1
  have hmin' : ∀ b < 128, Top2.m1 (L r) 249 b = Top2.mx (L r) 32000 → Top2.tk (L r) 249 a ≤ Top2.tk (L r) 249 b :=
    fun b hb hm => hmin b (Finset.mem_filter.2 ⟨Finset.mem_range.2 hb, hm⟩)
  have hbest := bestL_apply (stLast m c).1 (stLast m c).2.2 r _ _ hf hg hlt a ha1 (ha2.trans hsup.symm)
    (fun b hb hm => hmin' b hb (hm.trans hsup))
  refine ⟨Top2.tk (L r) 249 a, Top2.first_of_least (L r) 249 ha1 ha2 hmin', hbest, ?_, ?_⟩
  · rw [marginL_apply _ _ _ r _ _ _ _ hf hf2 hg hlt (hlt a ha1) hbest, hsup]
    exact congrArg (Top2.mx (L r) 32000 - ·) (Top2.second_eq (L r) 249 ⟨a, ha1, rfl⟩)
  · rw [topL_apply _ r _ hf, hsup]

end Cert.KernelIdeal.Value
-- ==== Proof.Blocks.lean ====
/- What each grid point reads, entry by entry, from the launch contents: the host's permutation and transposes undone. -/
module

public import proofs.«01_k».proof.Proof.State
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem

open Idealize.ShloMosaic.StableHlo

/-- The permuted activations, position by position: group, half and place within the half. -/
theorem perm_apply (x : FVec Ideal S128x1x4608 .bf16) (r : Fin 128) (p : Fin 4608) :
    shapeCast S128x4608 (transpose S128x144x16x2 [0, 1, 3, 2] (shapeCast S128x144x2x16 x shapeCasts_S128x1x4608_S128x144x2x16) transposes_S128x144x2x16_S128x144x16x2_0_1_3_2) shapeCasts_S128x144x16x2_S128x4608 (ix2 r p)
      = x (ix3 r 0 ⟨32 * (p.val / 32) + 16 * (p.val % 2) + p.val / 2 % 16, by omega⟩) := by
  pointwise
  exact congrArg (fun k => x (ix3 r 0 k)) (Fin.ext (by show p.val / 32 * 32 + p.val % 2 * 16 + p.val / 2 % 16 = 32 * (p.val / 32) + 16 * (p.val % 2) + p.val / 2 % 16; omega))

/-- A transposed matrix. -/
theorem tr_apply (x : FVec Ideal S32000x144 .bf16) (g : Fin 144) (j : Fin 32000) :
    transpose S144x32000 [1, 0] x transposes_S32000x144_S144x32000_1_0 (ix2 g j) = x (ix2 j g) := by
  pointwise

variable (m : (ℓ : Loc nD τ sig) → Buf (Elt Ideal) ℓ)

/-- The permuted activations the pipeline reads. -/
theorem V_x (c : Dev nD) : V m c main_v2 = shapeCast S128x4608 (transpose S128x144x16x2 [0, 1, 3, 2] (shapeCast S128x144x2x16 (m ((c.tc : Thread nD τ).loc main_arg0) : FVec Ideal S128x1x4608 .bf16) shapeCasts_S128x1x4608_S128x144x2x16) transposes_S128x144x2x16_S128x144x16x2_0_1_3_2) shapeCasts_S128x144x16x2_S128x4608 := by
  unfold V
  after_results_simp
  rfl
/-- The packed bytes the pipeline reads are the argument. -/
theorem V_w (c : Dev nD) : V m c main_arg1 = m ((c.tc : Thread nD τ).loc main_arg1) := by
  unfold V
  after_results_simp
  try rfl
/-- The scales the pipeline reads are the argument transposed. -/
theorem V_s (c : Dev nD) : V m c main_v3 = (transpose S144x32000 [1, 0] (m ((c.tc : Thread nD τ).loc main_arg2) : FVec Ideal S32000x144 .bf16) transposes_S32000x144_S144x32000_1_0) := by
  unfold V
  after_results_simp
  try rfl
/-- The minima the pipeline reads are the argument transposed. -/
theorem V_n (c : Dev nD) : V m c main_v4 = (transpose S144x32000 [1, 0] (m ((c.tc : Thread nD τ).loc main_arg3) : FVec Ideal S32000x144 .bf16) transposes_S32000x144_S144x32000_1_0) := by
  unfold V
  after_results_simp
  try rfl

/-- The grid's only coordinate is the point's number. -/
theorem coord_val (t : Fin cfg0.N) : (grid0.coords t 0).val = t.val := by
  have h : t.val < 125 := lt_of_lt_of_eq t.isLt N_0
  have e : (grid0.coords t 0).val = t.val / 1 % 125 := Pipeline.Grid.coords_val t 0 (by decide) rfl
  rw [e]; omega
/-- A column block's index is the point's number. -/
theorem index_val (t : Fin cfg0.N) : (BitVec.ofNat 32 (grid0.coords t 0).val).toNat = t.val := by
  have h : t.val < 125 := lt_of_lt_of_eq t.isLt N_0
  rw [coord_val, BitVec.toNat_ofNat]
  exact Nat.mod_eq_of_lt (by omega)

/-- Point `t`'s block of packed bytes: rows `256 t` on of the argument. -/
theorem iblk_w (c : Dev nD) (t : Fin cfg0.N) (q : Fin 256) (b : Fin 2304) (j : Fin 32000) (hj : j.val = 256 * t.val + q.val) :
    (iblk m c 1 t : Vec Ideal S256x2304 .i8) (ix2 q b) = (m ((c.tc : Thread nD τ).loc main_arg1) : Vec Ideal S32000x2304 .i8) (ix2 j b) := by
  have i0 : win0_1.index t 0 = t.val := index_val t
  have i1 : win0_1.index t 1 = 0 := rfl
  rw [← V_w m c]
  unfold iblk
  rw [View.read_apply]
  show (V m c main_arg1 : Vec Ideal S32000x2304 .i8) _ = _
  congr 1
  funext a
  apply Fin.ext
  match a with
  | ⟨0, _⟩ => show win0_1.index t 0 * 256 + 1 * q.val = j.val; rw [i0, hj]; omega
  | ⟨1, _⟩ => show win0_1.index t 1 * 2304 + 1 * b.val = b.val; rw [i1]; omega
/-- Point `t`'s block of scales: rows `256 t` on of the argument, transposed. -/
theorem iblk_s (c : Dev nD) (t : Fin cfg0.N) (g : Fin 144) (q : Fin 256) (j : Fin 32000) (hj : j.val = 256 * t.val + q.val) :
    (iblk m c 2 t : Vec Ideal S144x256 .bf16) (ix2 g q) = (m ((c.tc : Thread nD τ).loc main_arg2) : Vec Ideal S32000x144 .bf16) (ix2 j g) := by
  have i0 : win0_2.index t 0 = 0 := rfl
  have i1 : win0_2.index t 1 = t.val := index_val t
  have e : (V m c main_v3 : Vec Ideal S144x32000 .bf16) (ix2 g j) = (m ((c.tc : Thread nD τ).loc main_arg2) : Vec Ideal S32000x144 .bf16) (ix2 j g) := by
    rw [V_s]
    exact tr_apply _ g j
  rw [← e]
  unfold iblk
  rw [View.read_apply]
  show (V m c main_v3 : Vec Ideal S144x32000 .bf16) _ = _
  congr 1
  funext a
  apply Fin.ext
  match a with
  | ⟨0, _⟩ => show win0_2.index t 0 * 144 + 1 * g.val = g.val; rw [i0]; omega
  | ⟨1, _⟩ => show win0_2.index t 1 * 256 + 1 * q.val = j.val; rw [i1, hj]; omega
/-- Point `t`'s block of minima: rows `256 t` on of the argument, transposed. -/
theorem iblk_n (c : Dev nD) (t : Fin cfg0.N) (g : Fin 144) (q : Fin 256) (j : Fin 32000) (hj : j.val = 256 * t.val + q.val) :
    (iblk m c 3 t : Vec Ideal S144x256 .bf16) (ix2 g q) = (m ((c.tc : Thread nD τ).loc main_arg3) : Vec Ideal S32000x144 .bf16) (ix2 j g) := by
  have i0 : win0_3.index t 0 = 0 := rfl
  have i1 : win0_3.index t 1 = t.val := index_val t
  have e : (V m c main_v4 : Vec Ideal S144x32000 .bf16) (ix2 g j) = (m ((c.tc : Thread nD τ).loc main_arg3) : Vec Ideal S32000x144 .bf16) (ix2 j g) := by
    rw [V_n]
    exact tr_apply _ g j
  rw [← e]
  unfold iblk
  rw [View.read_apply]
  show (V m c main_v4 : Vec Ideal S144x32000 .bf16) _ = _
  congr 1
  funext a
  apply Fin.ext
  match a with
  | ⟨0, _⟩ => show win0_3.index t 0 * 144 + 1 * g.val = g.val; rw [i0]; omega
  | ⟨1, _⟩ => show win0_3.index t 1 * 256 + 1 * q.val = j.val; rw [i1, hj]; omega
/-- The activations, at every point the whole permuted argument. -/
theorem iblk_x (c : Dev nD) (t : Fin cfg0.N) (r : Fin 128) (p : Fin 4608) :
    (iblk m c 0 t : Vec Ideal S128x4608 .bf16) (ix2 r p) = (m ((c.tc : Thread nD τ).loc main_arg0) : Vec Ideal S128x1x4608 .bf16)
      (ix3 r 0 ⟨32 * (p.val / 32) + 16 * (p.val % 2) + p.val / 2 % 16, by omega⟩) := by
  have i0 : win0_0.index t 0 = 0 := rfl
  have i1 : win0_0.index t 1 = 0 := rfl
  have e : (V m c main_v2 : Vec Ideal S128x4608 .bf16) (ix2 r p) = (m ((c.tc : Thread nD τ).loc main_arg0) : Vec Ideal S128x1x4608 .bf16) (ix3 r 0 ⟨32 * (p.val / 32) + 16 * (p.val % 2) + p.val / 2 % 16, by omega⟩) := by
    rw [V_x]
    exact perm_apply _ r p
  rw [← e]
  unfold iblk
  rw [View.read_apply]
  show (V m c main_v2 : Vec Ideal S128x4608 .bf16) _ = _
  congr 1
  funext a
  apply Fin.ext
  match a with
  | ⟨0, _⟩ => show win0_0.index t 0 * 128 + 1 * r.val = r.val; rw [i0]; omega
  | ⟨1, _⟩ => show win0_0.index t 1 * 4608 + 1 * p.val = p.val; rw [i1]; omega
end Cert.KernelIdeal.Value
-- ==== Proof.Dot.lean ====
/- One logit as both programs compute it over the extended reals: the packed codes, their scales and minima, and the sum of
   products over the 2304 packed bytes of a column, both nibbles of each byte. -/
module

public import Idealize.ShloMosaic.PureOps.Ideal.Laws
public import Idealize.ShloMosaic.Lib.Pointwise

@[expose] public section
noncomputable section
namespace Cert.Dot
open Idealize.ShloMosaic

/-- Half `h` of a byte as a 32-bit word: the low nibble for 0, the high one otherwise. -/
def nib (w : BitVec 8) (h : ℕ) : BitVec 32 :=
  if h < 1 then IntOp.andi (BitVec.setWidth 32 w) 15#32 else IntOp.shrsi .vector (BitVec.setWidth 32 w) 4#32

/-- The low nibble. -/
theorem nib_zero (w : BitVec 8) : nib w 0 = IntOp.andi (BitVec.setWidth 32 w) 15#32 := if_pos (by decide)
/-- The high nibble, whichever unit shifts. -/
theorem nib_one (w : BitVec 8) : nib w 1 = IntOp.shrsi .host (BitVec.setWidth 32 w) 4#32 :=
  (if_neg (by decide)).trans rfl

/-- The product for half `h` of byte `b`: the activation of the half's place in the byte's group times the dequantized
    weight, code times scale plus minimum. -/
def term (X : ℕ → EReal) (W : ℕ → BitVec 8) (S N : ℕ → EReal) (b h : ℕ) : EReal :=
  X (32 * (b / 16) + 16 * h + b % 16) * (FloatOps.sitofp (F := Ideal) .bf16 (nib (W b) h) * S (b / 16) + N (b / 16))

/-- Row `r` of the activations by position. -/
def rowX (x : (⟨3, ![128, 1, 4608]⟩ : Shape).Idx → EReal) (r : Fin 128) : ℕ → EReal :=
  fun p => if h : p < 4608 then x (ix3 r 0 ⟨p, h⟩) else 0
/-- Column `j`'s packed bytes by position. -/
def rowW (w : (⟨2, ![32000, 2304]⟩ : Shape).Idx → BitVec 8) (j : Fin 32000) : ℕ → BitVec 8 :=
  fun b => if h : b < 2304 then w (ix2 j ⟨b, h⟩) else 0
/-- Column `j`'s scales or minima by group. -/
def rowS (s : (⟨2, ![32000, 144]⟩ : Shape).Idx → EReal) (j : Fin 32000) : ℕ → EReal :=
  fun g => if h : g < 144 then s (ix2 j ⟨g, h⟩) else 0

/-- Inside the row it is the activation. -/
theorem rowX_apply (x : (⟨3, ![128, 1, 4608]⟩ : Shape).Idx → EReal) (r : Fin 128) (p : Fin 4608) (n : ℕ) (hn : n = p.val) :
    rowX x r n = x (ix3 r 0 p) := by
  subst hn; exact dif_pos p.isLt
/-- Inside the column it is the byte. -/
theorem rowW_apply (w : (⟨2, ![32000, 2304]⟩ : Shape).Idx → BitVec 8) (j : Fin 32000) (b : Fin 2304) (n : ℕ) (hn : n = b.val) :
    rowW w j n = w (ix2 j b) := by
  subst hn; exact dif_pos b.isLt
/-- Inside the column it is the scale or minimum. -/
theorem rowS_apply (s : (⟨2, ![32000, 144]⟩ : Shape).Idx → EReal) (j : Fin 32000) (g : Fin 144) (n : ℕ) (hn : n = g.val) :
    rowS s j n = s (ix2 j g) := by
  subst hn; exact dif_pos g.isLt

/-- The product for half `h` of byte `b` of row `r` and column `j`. -/
def prod (x : (⟨3, ![128, 1, 4608]⟩ : Shape).Idx → EReal) (w : (⟨2, ![32000, 2304]⟩ : Shape).Idx → BitVec 8)
    (s n : (⟨2, ![32000, 144]⟩ : Shape).Idx → EReal) (r : Fin 128) (j : Fin 32000) : ℕ → ℕ → EReal :=
  term (rowX x r) (rowW w j) (rowS s j) (rowS n j)

/-- The product, from the values it is made of. -/
theorem prod_eq (x : (⟨3, ![128, 1, 4608]⟩ : Shape).Idx → EReal) (w : (⟨2, ![32000, 2304]⟩ : Shape).Idx → BitVec 8)
    (s n : (⟨2, ![32000, 144]⟩ : Shape).Idx → EReal) (r : Fin 128) (j : Fin 32000) (b h : ℕ)
    (p : Fin 4608) (hp : 32 * (b / 16) + 16 * h + b % 16 = p.val) (b' : Fin 2304) (hb : b = b'.val) (g : Fin 144) (hg : b / 16 = g.val) :
    prod x w s n r j b h = x (ix3 r 0 p) * (FloatOps.sitofp (F := Ideal) .bf16 (nib (w (ix2 j b')) h) * s (ix2 j g) + n (ix2 j g)) := by
  unfold prod term
  rw [rowX_apply x r p _ hp, rowW_apply w j b' _ hb, rowS_apply s j g _ hg, rowS_apply n j g _ hg]

/-- One logit: the low halves' products plus the high halves'. -/
def dot (x : (⟨3, ![128, 1, 4608]⟩ : Shape).Idx → EReal) (w : (⟨2, ![32000, 2304]⟩ : Shape).Idx → BitVec 8)
    (s n : (⟨2, ![32000, 144]⟩ : Shape).Idx → EReal) (r : Fin 128) (j : Fin 32000) : EReal :=
  (∑ b ∈ Finset.range 2304, prod x w s n r j b 0) + ∑ b ∈ Finset.range 2304, prod x w s n r j b 1

/-- Row `r`'s logits as a function of the column number. -/
def logitRow (x : (⟨3, ![128, 1, 4608]⟩ : Shape).Idx → EReal) (w : (⟨2, ![32000, 2304]⟩ : Shape).Idx → BitVec 8)
    (s n : (⟨2, ![32000, 144]⟩ : Shape).Idx → EReal) (r : Fin 128) : ℕ → EReal :=
  fun j => if h : j < 32000 then dot x w s n r ⟨j, h⟩ else ⊥

/-- A sum over positions that alternate between two halves. -/
theorem sum_halves (f : ℕ → ℕ → EReal) (n : ℕ) :
    ∑ p ∈ Finset.range (2 * n), f (p / 2) (p % 2) = ∑ i ∈ Finset.range n, (f i 0 + f i 1) := by
  induction n with
  | zero => rfl
  | succ n ih =>
    rw [show 2 * (n + 1) = 2 * n + 1 + 1 by omega, Finset.sum_range_succ, Finset.sum_range_succ, ih, Finset.sum_range_succ,
      show 2 * n / 2 = n by omega, show 2 * n % 2 = 0 by omega, show (2 * n + 1) / 2 = n by omega, show (2 * n + 1) % 2 = 1 by omega,
      add_assoc]

/-- A sum over tiles of a range. -/
theorem sum_tiles (f : ℕ → EReal) (n K : ℕ) :
    ∑ k ∈ Finset.range K, ∑ i ∈ Finset.range n, f (k * n + i) = ∑ j ∈ Finset.range (K * n), f j := by
  induction K with
  | zero => simp
  | succ K ih => rw [Finset.sum_range_succ, ih, Nat.succ_mul, Finset.sum_range_add]

/-- Eighteen tiles of 256 alternating positions are the two sums over the 2304 bytes. -/
theorem sum_steps (f : ℕ → ℕ → EReal) :
    ∑ k ∈ Finset.range 18, ∑ p ∈ Finset.range 256, f (k * 128 + p / 2) (p % 2)
      = (∑ b ∈ Finset.range 2304, f b 0) + ∑ b ∈ Finset.range 2304, f b 1 := by
  rw [← Finset.sum_add_distrib, show 2304 = 18 * 128 by norm_num, ← sum_tiles (fun b => f b 0 + f b 1)]
  exact Finset.sum_congr rfl fun k _ => sum_halves (fun i h => f (k * 128 + i) h) 128

end Cert.Dot
-- ==== Proof.StepRows.lean ====
/- What one step adds to the running block, entry by entry over the extended reals. -/
module

public import proofs.«01_k».proof.Proof.State
public import proofs.«01_k».proof.Proof.Blocks
public import proofs.«01_k».proof.Proof.Dot
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem

/-- Step `k`'s activations. -/
theorem xmat_apply (x0 : Vec Ideal S128x4608 .bf16) (k : Nat) (h : k < 18) (r : Fin 128) (p : Fin 256) :
    xmat x0 k h (ix2 r p) = x0 (ix2 r ⟨k * 256 + p.val, by omega⟩) := by
  pointwise [xmat]

/-- A row of a scale or minimum block. -/
theorem row_apply (s : Vec Ideal S144x256 .bf16) (k : Nat) (h : k < 144) (r : Fin 1) (q : Fin 256) :
    row s k h (ix2 r q) = s (ix2 ⟨k, h⟩ q) := by
  pointwise [row]

/-- A repeated row. -/
theorem rep16_apply (v : Vec Ideal S1x256 .bf16) (r : Fin 16) (q : Fin 256) : rep16 v (ix2 r q) = v (ix2 0 q) := by
  pointwise [rep16]
  exact ite_self _

/-- Step `k`'s scales or minima: row `p` holds the block's row of its 32-row group. -/
theorem smat_apply (s : Vec Ideal S144x256 .bf16) (k : Nat) (h : k < 18) (p q : Fin 256) (g : Fin 144) (hg : g.val = k * 8 + p.val / 32) :
    smat s k h (ix2 p q) = s (ix2 g q) := by
  have hb : ∀ n : Fin 16, k * 8 + n.val / 2 < 144 := fun n => by omega
  have e := concatenate_ofFn_apply (t := S256x256) (s₁ := S16x256) 0 (N := 16) (fun n => rep16 (row s (k * 8 + n.val / 2) (hb n)))
    concatenates_S16x256_S16x256_S16x256_S16x256_S16x256_S16x256_S16x256_S16x256_S16x256_S16x256_S16x256_S16x256_S16x256_S16x256_S16x256_S16x256_S256x256_d0
    rfl 16 rfl (ix2 p q) ⟨p.val / 16, by omega⟩ rfl (ix2 ⟨p.val % 16, by omega⟩ q) rfl
    (fun b hb => match b with
      | ⟨0, _⟩ => absurd rfl hb
      | ⟨1, _⟩ => rfl)
  refine Eq.trans ?_ (e.trans ?_)
  · rfl
  · rw [rep16_apply, row_apply]
    exact congrArg (fun g => s (ix2 g q)) (Fin.ext (by show k * 8 + p.val / 16 / 2 = g.val; omega))

/-- The code in row `p`: the low nibble of byte `p / 2` in an even row, the high one in an odd row. -/
theorem qmat_apply (v : Vec Ideal S256x128 .i8) (p q : Fin 256) :
    qmat (F := Ideal) v (ix2 p q) = FloatOps.sitofp (F := Ideal) .bf16 (Dot.nib (v (ix2 q ⟨p.val / 2, by omega⟩)) (p.val % 2)) := by
  pointwise [qmat]
  rfl

/-- The bytes step `k` loads. -/
theorem load_apply (x1 : Vec Ideal S256x2304 .i8) (k : Nat) (h : k < 18) (hb : ∀ a, (![0, k * 128] : Fin 2 → Nat) a + S256x128.size a ≤ S256x2304.size a)
    (q : Fin 256) (i : Fin 128) (b : Fin 2304) (hbv : b.val = k * 128 + i.val) :
    View.ld x1 (Rect.unit ![0, k * 128] S256x128.size hb) (ix2 q i) = x1 (ix2 q b) := by
  pointwise
  exact congrArg (fun b => x1 (ix2 q b)) (Fin.ext hbv.symm)

/-- Step `k`'s weights. -/
theorem wmat_apply (x1 : Vec Ideal S256x2304 .i8) (x2 x3 : Vec Ideal S144x256 .bf16) (k : Nat) (h : k < 18) (p q : Fin 256)
    (b : Fin 2304) (hb : b.val = k * 128 + p.val / 2) (g : Fin 144) (hg : g.val = k * 8 + p.val / 32) :
    wmat x1 x2 x3 k h (ix2 p q) = FloatOps.sitofp (F := Ideal) .bf16 (Dot.nib (x1 (ix2 q b)) (p.val % 2)) * x2 (ix2 g q) + x3 (ix2 g q) := by
  rw [← load_apply x1 k h (fun a => match a with
    | ⟨0, _⟩ => (show 0 + 256 ≤ 256 from le_refl _)
    | ⟨1, _⟩ => (show k * 128 + 128 ≤ 2304 by omega)) q ⟨p.val / 2, by omega⟩ b hb, ← qmat_apply,
    ← smat_apply x2 k h p q g hg, ← smat_apply x3 k h p q g hg]
  rfl

/-- One step adds 256 products. -/
theorem step_apply (x0 : Vec Ideal S128x4608 .bf16) (x1 : Vec Ideal S256x2304 .i8) (x2 x3 : Vec Ideal S144x256 .bf16) (k : Nat) (h : k < 18)
    (acc : FVec Ideal S128x256 .f32) (r : Fin 128) (q : Fin 256) :
    step x0 x1 x2 x3 k h acc (ix2 r q) = acc (ix2 r q) + ∑ p : Fin 256, xmat x0 k h (ix2 r p) * wmat x1 x2 x3 k h (ix2 p q) := by
  pointwise [step]

/-- The running block after `k` steps is the sum of the steps' contributions, whatever names them. -/
theorem accN_apply (x0 : Vec Ideal S128x4608 .bf16) (x1 : Vec Ideal S256x2304 .i8) (x2 x3 : Vec Ideal S144x256 .bf16) (r : Fin 128) (q : Fin 256)
    (T : ℕ → ℕ → EReal)
    (hT : ∀ (k : ℕ) (h : k < 18) (p : Fin 256), xmat x0 k h (ix2 r p) * wmat x1 x2 x3 k h (ix2 p q) = T k p.val)
    (k : ℕ) (h : k ≤ 18) : accN x0 x1 x2 x3 k h (ix2 r q) = ∑ i ∈ Finset.range k, ∑ p ∈ Finset.range 256, T i p := by
  induction k with
  | zero =>
    rw [Finset.range_zero, Finset.sum_empty]
    show Ideal.ofBits .f32 0x00000000#32 = 0
    simp [Ideal.ofBits, Ideal.ieee]
  | succ k ih =>
    rw [Finset.sum_range_succ, ← ih (Nat.le_of_lt h), Finset.sum_range (n := 256)]
    refine (step_apply x0 x1 x2 x3 k h _ r q).trans ?_
    exact congrArg _ (Finset.sum_congr rfl fun p _ => hT k h p)

/-- A block's logit is the sum over both halves of every packed byte. -/
theorem blkAcc_apply (m : (ℓ : Loc nD τ sig) → Buf (Elt Ideal) ℓ) (c : Dev nD) (t : Fin cfg0.N) (r : Fin 128) (q : Fin 256)
    (j : Fin 32000) (hj : j.val = 256 * t.val + q.val) :
    blkAcc m c t (ix2 r q) = Dot.dot (m ((c.tc : Thread nD τ).loc main_arg0)) (m ((c.tc : Thread nD τ).loc main_arg1))
      (m ((c.tc : Thread nD τ).loc main_arg2)) (m ((c.tc : Thread nD τ).loc main_arg3)) r j := by
  unfold blkAcc acc Dot.dot
  rw [accN_apply _ _ _ _ r q (fun k p => Dot.prod (m ((c.tc : Thread nD τ).loc main_arg0)) (m ((c.tc : Thread nD τ).loc main_arg1))
      (m ((c.tc : Thread nD τ).loc main_arg2)) (m ((c.tc : Thread nD τ).loc main_arg3)) r j (k * 128 + p / 2) (p % 2)) ?_ 18 (le_refl _)]
  · exact Dot.sum_steps _
  · intro k h p
    have hb : k * 128 + p.val / 2 < 2304 := by omega
    have hg : k * 8 + p.val / 32 < 144 := by omega
    have hp : k * 256 + p.val < 4608 := by omega
    rw [xmat_apply, wmat_apply _ _ _ k h p q ⟨_, hb⟩ rfl ⟨_, hg⟩ rfl, iblk_x, iblk_w m c t q _ j hj, iblk_s m c t _ q j hj, iblk_n m c t _ q j hj]
    refine (Dot.prod_eq _ _ _ _ r j _ _ _ ?_ ⟨_, hb⟩ rfl ⟨_, hg⟩ ?_).symm
    · show 32 * ((k * 128 + p.val / 2) / 16) + 16 * (p.val % 2) + (k * 128 + p.val / 2) % 16
        = 32 * ((k * 256 + p.val) / 32) + 16 * ((k * 256 + p.val) % 2) + (k * 256 + p.val) / 2 % 16
      omega
    · show (k * 128 + p.val / 2) / 16 = k * 8 + p.val / 32
      omega

end Cert.KernelIdeal.Value
-- ==== Proof.KernelRows.lean ====
/- The kernel's three results over the extended reals, row by row, from the logits of its launch contents. -/
module

public import proofs.«01_k».proof.Proof.Lanes
public import proofs.«01_k».proof.Proof.StepRows

@[expose] public section
set_option maxRecDepth 16384
noncomputable section
namespace Cert.KernelIdeal.Value
open Cert.KernelIdeal Cert.KernelIdeal.Gen Idealize.ShloMosaic Idealize.ShloMosaic.TcCoe Idealize.SL.Sem

/-- Row `r`'s logits of the launch contents. -/
abbrev launchRow (m : (ℓ : Loc nD τ sig) → Buf (Elt Ideal) ℓ) (c : Dev nD) (r : Fin 128) : ℕ → EReal :=
  Dot.logitRow (m ((c.tc : Thread nD τ).loc main_arg0)) (m ((c.tc : Thread nD τ).loc main_arg1))
    (m ((c.tc : Thread nD τ).loc main_arg2)) (m ((c.tc : Thread nD τ).loc main_arg3)) r

/-- The kernel's results, row by row: the first greatest column, the margin over the other columns, and the maximum. -/
theorem kernel_rows (m : (ℓ : Loc nD τ sig) → Buf (Elt Ideal) ℓ) (c : Dev nD) (r : Fin 128) :
    ∃ k, Top2.First (launchRow m c r) 32000 k ∧ (G4 m c : IVec S128x1 32) (ix2 r 0) = BitVec.ofNat 32 k
      ∧ (G5 m c : FVec Ideal S128x1 .f32) (ix2 r 0) = Top2.mx (launchRow m c r) 32000 - Top2.mxBut (launchRow m c r) 32000 k
      ∧ (G6 m c : FVec Ideal S128x1 .f32) (ix2 r 0) = Top2.mx (launchRow m c r) 32000 := by
  obtain ⟨e4, e5, e6⟩ := results m c
  rw [e4, e5, e6]
  refine results_rows m c (launchRow m c) (fun t r q => ?_) r
  have ht : t.val < 125 := lt_of_lt_of_eq t.isLt N_0
  have hj : 256 * t.val + q.val < 32000 := by omega
  rw [blkAcc_apply m c t r q ⟨_, hj⟩ rfl]
  unfold launchRow Dot.logitRow
  rw [dif_pos hj]

end Cert.KernelIdeal.Value
-- ==== Proof.RefRows.lean ====
/- The reference's results over the extended reals, row by row: the maximum, its first column, and the maximum of the
   other columns. -/
module

public import proofs.«01_k».proof.Proof.RefRun
public import proofs.«01_k».proof.Proof.Top2
public import Idealize.ShloMosaic.Lib.Pointwise

@[expose] public section
set_option maxRecDepth 16384
noncomputable section
namespace Cert.ReferenceIdeal.Value
open Cert.ReferenceIdeal Cert.ReferenceIdeal.Gen Idealize.ShloMosaic Idealize.ShloMosaic.TcCoe Idealize.SL.Sem

/-- The (value, index) pairs of a matrix's row in the order of its columns. -/
theorem argReduceFiber_row {α β : Type} {n0 n1 : ℕ} {t : Shape} (x : (⟨2, ![n0, n1]⟩ : Shape).Idx → α) (y : (⟨2, ![n0, n1]⟩ : Shape).Idx → β)
    (h : (⟨2, ![n0, n1]⟩ : Shape).ReducesTo [1] t) (j : t.Idx) (r : Fin n0) (hr : r.val = (j ⟨0, h.lt_r2_a1_0⟩).val) :
    Host.argReduceFiber x y h j = (List.finRange n1).map fun k => (x (ix2 r k), y (ix2 r k)) := by
  have hr' : r = ⟨(j ⟨0, h.lt_r2_a1_0⟩).val, Shape.coordLt (j ⟨0, h.lt_r2_a1_0⟩) h.size_r2_a1_0⟩ := Fin.ext hr
  have key : ((List.finRange (⟨2, ![n0, n1]⟩ : Shape).numel).filter fun n => h.drop ((⟨2, ![n0, n1]⟩ : Shape).rowMajor.symm n) = j)
      = (List.finRange n1).map fun k => (⟨2, ![n0, n1]⟩ : Shape).rowMajor (ix2 r k) := by
    refine List.Pairwise.eq_of_mem_iff (r := (· < ·)) ((List.pairwise_lt_finRange _).filter _) ?_ ?_
    · rw [List.pairwise_map]
      refine (List.pairwise_lt_finRange _).imp fun {k k'} hk => ?_
      have e : ∀ k : Fin n1, ((⟨2, ![n0, n1]⟩ : Shape).rowMajor (ix2 r k)).val = r.val * n1 + k.val := fun k => by
        rw [show ix2 r k = Shape.pair (d := ![n0, n1]) r k from funext fun a => match a with
          | ⟨0, _⟩ => rfl
          | ⟨1, _⟩ => rfl]
        exact Shape.rowMajor_pair_val (d := ![n0, n1]) r k
      show (_ : Fin _).val < (_ : Fin _).val
      rw [e, e]
      exact Nat.add_lt_add_left hk _
    · intro n
      simp only [List.mem_filter, List.mem_finRange, true_and, decide_eq_true_eq, List.mem_map]
      rw [h.fiber_r2_a1 j, ← hr']
      constructor
      · rintro ⟨k, hk⟩
        exact ⟨k, by rw [hk, Equiv.apply_symm_apply]⟩
      · rintro ⟨k, rfl⟩
        exact ⟨k, by rw [Equiv.symm_apply_apply]⟩
  unfold Host.argReduceFiber
  rw [key, List.map_map]
  refine List.map_congr_left fun k _ => ?_
  simp only [Function.comp, Equiv.symm_apply_apply]

/-- Row `r`'s logits as a function of the column number. -/
def rowOf (l : FVec Ideal S128x32000 .f32) (r : Fin 128) : ℕ → EReal := fun j => if h : j < 32000 then l (ix2 r ⟨j, h⟩) else ⊥

/-- Inside the row it is the logit. -/
theorem rowOf_apply (l : FVec Ideal S128x32000 .f32) (r : Fin 128) (k : Fin 32000) : rowOf l r k.val = l (ix2 r k) := by
  unfold rowOf; rw [dif_pos k.isLt]

/-- A fold of `max` from minus infinity over a row is the row's maximum. -/
theorem fold_max_row (n : ℕ) (f : ℕ → EReal) :
    (Finset.univ : Finset (Fin n)).fold max (Ideal.ofBits .f32 0xFF800000#32) (fun x => f x.val) = Top2.mx f n := by
  rw [show Ideal.ofBits .f32 0xFF800000#32 = ⊥ by simp [Ideal.ofBits, Ideal.ieee]]
  show (Finset.univ : Finset (Fin n)).sup (fun x => f x.val) = _
  apply le_antisymm
  · exact Finset.sup_le fun x _ => Top2.le_mx f x.isLt
  · exact Finset.sup_le fun k hk => Finset.le_sup (f := fun x : Fin n => f x.val) (Finset.mem_univ ⟨k, Finset.mem_range.1 hk⟩)

/-- The rows' maxima. -/
theorem rowMax_apply (l : FVec Ideal S128x32000 .f32) (r : Fin 128) : rowMax l (ix1 r) = Top2.mx (rowOf l r) 32000 := by
  rw [← fold_max_row]
  pointwise [rowMax]
  simp only [rowOf_apply]

/-- The word of a natural number below 2³¹ reads as the number. -/
theorem toInt_ofNat_small {a : ℕ} (ha : a < 2 ^ 31) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

/-- The reducer on a scanned pair is the scan's step. -/
theorem reducer_eq (v x : EReal) (i j : ℕ) (hi : i < 2 ^ 31) (hj : j < 2 ^ 31) :
    reducer_argmax_f32_i32 (F := Ideal) (v, BitVec.ofNat 32 i) (x, BitVec.ofNat 32 j)
      = ((Top2.scanStep j x (v, i)).1, BitVec.ofNat 32 (Top2.scanStep j x (v, i)).2) := by
  have e2 : ∀ a b : Ideal .f32, FloatOps.cmpf .ogt a b = BitVec.ofBool (decide ((b : EReal) < a)) := fun _ _ => rfl
  have e3 : ∀ a b : Ideal .f32, FloatOps.cmpf .une a b = BitVec.ofBool (decide ((a : EReal) ≠ b)) := fun _ _ => rfl
  have e5 : ∀ a b : Ideal .f32, FloatOps.cmpf .oeq a b = BitVec.ofBool (decide ((a : EReal) = b)) := fun _ _ => rfl
  have e6 : IntOp.cmpi .slt (BitVec.ofNat 32 i) (BitVec.ofNat 32 j) = BitVec.ofBool (decide (i < j)) := by
    show BitVec.ofBool (BitVec.slt _ _) = _
    simp only [BitVec.slt, toInt_ofNat_small hi, toInt_ofNat_small hj, Nat.cast_lt]
  unfold reducer_argmax_f32_i32 Top2.scanStep
  simp only [e2, e3, e5, e6]
  by_cases h1 : x < v <;> by_cases h2 : v = x <;> by_cases h3 : i < j <;>
    simp [h1, h2, h3, IntOp.ori, IntOp.andi, Scalar.select]

/-- The scan over a row's first `n` columns. -/
theorem foldl_scan (v : ℕ → EReal) (n N : ℕ) (hn : n ≤ N) (hN : N < 2 ^ 31) :
    ((List.range n).map fun k => (v k, BitVec.ofNat 32 k)).foldl (reducer_argmax_f32_i32 (F := Ideal)) (⊥, 0#32)
      = ((Top2.scan v n).1, BitVec.ofNat 32 (Top2.scan v n).2) := by
  induction n with
  | zero => rfl
  | succ n ih =>
    rw [List.range_succ, List.map_append, List.foldl_append, ih (by omega)]
    have hs : (Top2.scan v n).2 < 2 ^ 31 := by
      cases n with
      | zero => exact (by decide : 0 < 2 ^ 31)
      | succ n => have := (Top2.scan_spec v n).2.lt; omega
    exact reducer_eq _ _ _ _ hs (by omega)

/-- The scan of a row given as (value, index) pairs. -/
theorem foldl_row (n : ℕ) (hn : n < 2 ^ 31) (v : ℕ → EReal) (x : Fin n → EReal) (y : Fin n → BitVec 32) (hx : ∀ k, x k = v k.val)
    (hy : ∀ k, y k = BitVec.ofNat 32 k.val) (a : EReal) (ha : a = ⊥) (b : BitVec 32) (hb : b = 0#32) :
    (((List.finRange n).map fun k => (x k, y k)).foldl (reducer_argmax_f32_i32 (F := Ideal)) (a, b)).2
      = BitVec.ofNat 32 (Top2.scan v n).2 := by
  subst ha hb
  rw [show ((List.finRange n).map fun k => (x k, y k)) = (List.range n).map fun k => (v k, BitVec.ofNat 32 k) by
    rw [← List.map_coe_finRange_eq_range, List.map_map]
    exact List.map_congr_left fun k _ => by rw [Function.comp, hx, hy]]
  rw [foldl_scan v n n (le_refl _) hn]

/-- The initial value of the scan is minus infinity. -/
theorem init_eq : (constant S_ .f32 0xFF800000#32 : FVec Ideal S_ .f32) (Shape.Idx.first h_S_) = (⊥ : EReal) := by
  show Ideal.ofBits .f32 0xFF800000#32 = ⊥
  simp [Ideal.ofBits, Ideal.ieee]

/-- The arg-maxima are the second components of any array the arg-reduction equals. -/
theorem rowArg_of_eq (l : FVec Ideal S128x32000 .f32) (A : S128.Idx → EReal × BitVec 32) (hA : Host.argReduce reducer_argmax_f32_i32 l (iotaInDim S128x32000 32 1) (constant S_ .f32 0xFF800000#32) (constantI S_ 32 0#32) reducesTo_S128x32000_S128_d1 h_S_ = A) :
    rowArg l = fun j => (A j).2 := by
  delta rowArg
  rw [hA]

/-- So at a row they are the second component of what the arg-reduction is there. -/
theorem rowArg_at (l : FVec Ideal S128x32000 .f32) (A : S128.Idx → EReal × BitVec 32) (hA : Host.argReduce reducer_argmax_f32_i32 l (iotaInDim S128x32000 32 1) (constant S_ .f32 0xFF800000#32) (constantI S_ 32 0#32) reducesTo_S128x32000_S128_d1 h_S_ = A)
    (j : S128.Idx) (z : EReal × BitVec 32) (hz : A j = z) : rowArg l j = z.2 := by
  rw [rowArg_of_eq l A hA]
  exact congrArg Prod.snd hz

/-- The host's fold over a row's pairs is the scan. -/
theorem reduce2_row (l : FVec Ideal S128x32000 .f32) (r : Fin 128) :
    ∃ z : EReal × BitVec 32, z.2 = BitVec.ofNat 32 (Top2.scan (rowOf l r) 32000).2
      ∧ Host.reduce2 (reducer_argmax_f32_i32 (F := Ideal)) l (iotaInDim S128x32000 32 1) (constant S_ .f32 0xFF800000#32) (constantI S_ 32 0#32) reducesTo_S128x32000_S128_d1 h_S_ (ix1 r) = z := by
  have e := Host.reduce2_eq_foldl_fiber (reducer_argmax_f32_i32 (F := Ideal)) l (iotaInDim S128x32000 32 1) (constant S_ .f32 0xFF800000#32) (constantI S_ 32 0#32) reducesTo_S128x32000_S128_d1 h_S_ (ix1 r)
  rw [argReduceFiber_row l (iotaInDim S128x32000 32 1) reducesTo_S128x32000_S128_d1 (ix1 r) r rfl] at e
  have e2 := foldl_row 32000 (by norm_num) (rowOf l r) (fun k => l (ix2 r k)) (fun k => iotaInDim S128x32000 32 1 (ix2 r k))
    (fun k => (rowOf_apply l r k).symm) (fun k => rfl) _ init_eq (constantI S_ 32 0#32 (Shape.Idx.first h_S_)) rfl
  exact ⟨_, e2, e⟩

/-- The rows' first greatest columns. -/
theorem rowArg_apply (l : FVec Ideal S128x32000 .f32) (r : Fin 128) :
    ∃ k, Top2.First (rowOf l r) 32000 k ∧ rowArg l (ix1 r) = BitVec.ofNat 32 k := by
  obtain ⟨n, hn⟩ : ∃ n, n + 1 = 32000 := ⟨31999, rfl⟩
  obtain ⟨z, hz, e⟩ := reduce2_row l r
  have e1 := rowArg_at l _ (Ideal.argReduce_eq_reduce2 (reducer_argmax_f32_i32 (F := Ideal)) l (iotaInDim S128x32000 32 1) (constant S_ .f32 0xFF800000#32) (constantI S_ 32 0#32) reducesTo_S128x32000_S128_d1 h_S_) (ix1 r) z e
  have e3 := (Top2.scan_spec (rowOf l r) n).2
  rw [hn] at e3
  exact ⟨_, e3, e1.trans hz⟩

/-- A matrix with one column of each row masked. -/
theorem maskAt_apply (a : IVec S128 32) (l : FVec Ideal S128x32000 .f32) (r : Fin 128) (q : Fin 32000) :
    maskAt a l (ix2 r q) = if BitVec.ofNat 32 q.val = a (ix1 r) then ⊥ else l (ix2 r q) := by
  pointwise [maskAt]
  rw [show Ideal.ofBits .f32 4286578688#32 = ⊥ by simp [Ideal.ofBits, Ideal.ieee]]
  show (if BitVec.ofBool (BitVec.ofNat 32 q.val == a (ix1 r)) = 1#1 then (⊥ : EReal) else l (ix2 r q)) = _
  by_cases h : BitVec.ofNat 32 q.val = a (ix1 r)
  · rw [if_pos h, if_pos (by rw [beq_iff_eq.2 h]; rfl)]
  · rw [if_neg h, if_neg (by rw [beq_eq_false_iff_ne.2 h]; decide)]

/-- The maximum of a row whose column `k` is masked is the maximum of its other columns. -/
theorem rowMax_mask (a : IVec S128 32) (l : FVec Ideal S128x32000 .f32) (r : Fin 128) (k : ℕ) (hk : k < 32000)
    (e : a (ix1 r) = BitVec.ofNat 32 k) : rowMax (maskAt a l) (ix1 r) = Top2.mxBut (rowOf l r) 32000 k := by
  rw [rowMax_apply, ← Top2.mx_mask]
  refine Top2.mx_congr fun j hj => ?_
  have hw : BitVec.ofNat 32 j = BitVec.ofNat 32 k ↔ j = k := by
    refine ⟨fun h => ?_, fun h => by rw [h]⟩
    have h' := congrArg BitVec.toInt h
    rw [toInt_ofNat_small (by omega), toInt_ofNat_small (by omega)] at h'
    exact_mod_cast h'
  unfold rowOf
  rw [dif_pos hj, dif_pos hj, maskAt_apply, e]
  by_cases h : j = k
  · rw [if_pos h, if_pos (hw.2 h)]
  · rw [if_neg h, if_neg fun h' => h (hw.1 h')]

/-- A vector as a column. -/
theorem col_apply {α : Type} (v : S128.Idx → α) (r : Fin 128) : shapeCast S128x1 v shapeCasts_S128_S128x1 (ix2 r 0) = v (ix1 r) := by
  pointwise

/-- A difference of vectors at an index. -/
theorem sub_apply (x y : FVec Ideal S128 .f32) (j : S128.Idx) : subf x y j = (x j : EReal) - (y j : EReal) := rfl

/-- The token result from the arg-maxima. -/
theorem refTok_eq (l : FVec Ideal S128x32000 .f32) (a : IVec S128 32) (ha : rowArg l = a) :
    refTok l = shapeCast S128x1 a shapeCasts_S128_S128x1 := by
  delta refTok
  rw [ha]

/-- The margin result from the arg-maxima. -/
theorem refMargin_eq (l : FVec Ideal S128x32000 .f32) (a : IVec S128 32) (ha : rowArg l = a) :
    refMargin l = shapeCast S128x1 (subf (rowMax l) (rowMax (maskAt a l))) shapeCasts_S128_S128x1 := by
  delta refMargin masked
  rw [ha]

/-- The reference's three results, row by row: the first greatest column, the margin over the other columns, and the
    maximum. -/
theorem ref_rows (l : FVec Ideal S128x32000 .f32) (r : Fin 128) :
    ∃ k, Top2.First (rowOf l r) 32000 k ∧ refTok l (ix2 r 0) = BitVec.ofNat 32 k
      ∧ refMargin l (ix2 r 0) = Top2.mx (rowOf l r) 32000 - Top2.mxBut (rowOf l r) 32000 k
      ∧ refTop l (ix2 r 0) = Top2.mx (rowOf l r) 32000 := by
  obtain ⟨k, hk, e⟩ := rowArg_apply l r
  obtain ⟨a, ha⟩ : ∃ a, rowArg l = a := ⟨_, rfl⟩
  rw [ha] at e
  refine ⟨k, hk, ?_, ?_, ?_⟩
  · rw [refTok_eq l a ha, col_apply, e]
  · rw [refMargin_eq l a ha, col_apply]
    have e1 := rowMax_apply l r
    have e2 := rowMax_mask a l r k hk.lt e
    rw [sub_apply, e1, e2]
  · rw [← rowMax_apply]
    exact col_apply (rowMax l) r

end Cert.ReferenceIdeal.Value
-- ==== Proof.RefLogits.lean ====
/- The reference's logits over the extended reals, entry by entry. -/
module

public import proofs.«01_k».proof.Proof.RefRows
public import proofs.«01_k».proof.Proof.Top2
public import proofs.«01_k».proof.Proof.Dot
public import Idealize.ShloMosaic.Lib.Pointwise

@[expose] public section
set_option maxRecDepth 16384
noncomputable section
namespace Cert.ReferenceIdeal.Value
open Cert.ReferenceIdeal Cert.ReferenceIdeal.Gen Idealize.ShloMosaic Idealize.ShloMosaic.TcCoe Idealize.SL.Sem

/-- The low half of a group, by byte. -/
theorem xLo_apply (x : FVec Ideal S128x1x4608 .bf16) (r : Fin 128) (b : Fin 2304) :
    xLo x (ix2 r b) = x (ix3 r 0 ⟨b.val / 16 * 32 + b.val % 16, by omega⟩) := by
  pointwise [xLo]

/-- The high half of a group, by byte. -/
theorem xHi_apply (x : FVec Ideal S128x1x4608 .bf16) (r : Fin 128) (b : Fin 2304) :
    xHi x (ix2 r b) = x (ix3 r 0 ⟨b.val / 16 * 32 + 16 + b.val % 16, by omega⟩) := by
  pointwise [xHi]

/-- A dequantized weight. -/
theorem deq_apply (c : IVec S32000x2304 32) (s n : FVec Ideal S32000x144 .bf16) (j : Fin 32000) (b : Fin 2304) :
    deq c s n (ix2 j b) = FloatOps.sitofp (F := Ideal) .bf16 (c (ix2 j b)) * s (ix2 j ⟨b.val / 16, by omega⟩) + n (ix2 j ⟨b.val / 16, by omega⟩) := by
  pointwise [deq, rep]

/-- A low nibble. -/
theorem qLo_apply (w : IVec S32000x2304 8) (j : Fin 32000) (b : Fin 2304) : qLo w (ix2 j b) = Dot.nib (w (ix2 j b)) 0 := by
  rw [Dot.nib_zero]
  pointwise [qLo, codes]

/-- A high nibble. -/
theorem qHi_apply (w : IVec S32000x2304 8) (j : Fin 32000) (b : Fin 2304) : qHi w (ix2 j b) = Dot.nib (w (ix2 j b)) 1 := by
  rw [Dot.nib_one]
  pointwise [qHi, codes]

/-- A logit as two sums over the packed bytes. -/
theorem logits_sums (x : FVec Ideal S128x1x4608 .bf16) (w : IVec S32000x2304 8) (s n : FVec Ideal S32000x144 .bf16) (r : Fin 128) (j : Fin 32000) :
    logits x w s n (ix2 r j) = (∑ b : Fin 2304, xLo x (ix2 r b) * deq (qLo w) s n (ix2 j b)) + ∑ b : Fin 2304, xHi x (ix2 r b) * deq (qHi w) s n (ix2 j b) := by
  pointwise [logits]

/-- A logit is the sum over both halves of every packed byte. -/
theorem logits_apply (x : FVec Ideal S128x1x4608 .bf16) (w : IVec S32000x2304 8) (s n : FVec Ideal S32000x144 .bf16) (r : Fin 128) (j : Fin 32000) :
    logits x w s n (ix2 r j) = Dot.dot x w s n r j := by
  rw [logits_sums]
  unfold Dot.dot
  rw [Finset.sum_range (n := 2304), Finset.sum_range (n := 2304)]
  refine congrArg₂ (· + ·) (Finset.sum_congr rfl fun b _ => ?_) (Finset.sum_congr rfl fun b _ => ?_)
  · rw [xLo_apply, deq_apply, qLo_apply]
    exact (Dot.prod_eq x w s n r j b.val 0 _ (by show 32 * (b.val / 16) + 16 * 0 + b.val % 16 = b.val / 16 * 32 + b.val % 16; omega) b rfl ⟨b.val / 16, by omega⟩ rfl).symm
  · rw [xHi_apply, deq_apply, qHi_apply]
    exact (Dot.prod_eq x w s n r j b.val 1 _ (by show 32 * (b.val / 16) + 16 * 1 + b.val % 16 = b.val / 16 * 32 + 16 + b.val % 16; omega) b rfl ⟨b.val / 16, by omega⟩ rfl).symm

/-- A row of the logits. -/
theorem rowOf_logits (x : FVec Ideal S128x1x4608 .bf16) (w : IVec S32000x2304 8) (s n : FVec Ideal S32000x144 .bf16) (r : Fin 128) :
    rowOf (logits x w s n) r = Dot.logitRow x w s n r := by
  funext j
  unfold rowOf Dot.logitRow
  by_cases h : j < 32000
  · rw [dif_pos h, dif_pos h, logits_apply]
  · rw [dif_neg h, dif_neg h]

end Cert.ReferenceIdeal.Value
-- ==== Proof.Agree.lean ====
/- Two triples of results that are each, row by row, the first greatest column, the margin and the maximum of one row of
   logits are equal. -/
module

public import proofs.«01_k».proof.Proof.KernelRows
public import proofs.«01_k».proof.Proof.RefLogits

@[expose] public section
noncomputable section
namespace Cert.Agree
open Idealize.ShloMosaic

/-- Two columns equal at every row are equal. -/
theorem col_ext {α : Type} (u v : (⟨2, ![128, 1]⟩ : Shape).Idx → α) (h : ∀ r : Fin 128, u (ix2 r 0) = v (ix2 r 0)) : u = v := by
  funext i
  have e : i = ix2 (i 0) 0 := funext fun a => match a with
    | ⟨0, _⟩ => rfl
    | ⟨1, _⟩ => Subsingleton.elim (α := Fin 1) _ _
  rw [e]
  exact h _

/-- A row's results are determined by its logits. -/
theorem rows_eq (L : Fin 128 → ℕ → EReal) (t t' : (⟨2, ![128, 1]⟩ : Shape).Idx → BitVec 32) (g g' p p' : (⟨2, ![128, 1]⟩ : Shape).Idx → EReal)
    (h : ∀ r, ∃ k, Top2.First (L r) 32000 k ∧ t (ix2 r 0) = BitVec.ofNat 32 k
      ∧ g (ix2 r 0) = Top2.mx (L r) 32000 - Top2.mxBut (L r) 32000 k ∧ p (ix2 r 0) = Top2.mx (L r) 32000)
    (h' : ∀ r, ∃ k, Top2.First (L r) 32000 k ∧ t' (ix2 r 0) = BitVec.ofNat 32 k
      ∧ g' (ix2 r 0) = Top2.mx (L r) 32000 - Top2.mxBut (L r) 32000 k ∧ p' (ix2 r 0) = Top2.mx (L r) 32000) :
    t = t' ∧ g = g' ∧ p = p' := by
  have key : ∀ r : Fin 128, t (ix2 r 0) = t' (ix2 r 0) ∧ g (ix2 r 0) = g' (ix2 r 0) ∧ p (ix2 r 0) = p' (ix2 r 0) := fun r => by
    obtain ⟨k, hk, e1, e2, e3⟩ := h r
    obtain ⟨k', hk', e1', e2', e3'⟩ := h' r
    obtain rfl : k = k' := hk.unique hk'
    exact ⟨e1.trans e1'.symm, e2.trans e2'.symm, e3.trans e3'.symm⟩
  exact ⟨col_ext t t' fun r => (key r).1, col_ext g g' fun r => (key r).2.1, col_ext p p' fun r => (key r).2.2⟩

/-- From memories that agree on the arguments, the kernel's three results are the reference's. -/
theorem results_eq (m : (ℓ : Loc Cert.KernelIdeal.nD Cert.KernelIdeal.τ Cert.KernelIdeal.sig) → Buf (Elt Ideal) ℓ) (c : Dev Cert.KernelIdeal.nD) :
    let l := Cert.ReferenceIdeal.Value.logits (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
    Cert.ReferenceIdeal.Value.refTok l = Cert.KernelIdeal.Value.G4 m c
      ∧ Cert.ReferenceIdeal.Value.refMargin l = Cert.KernelIdeal.Value.G5 m c
      ∧ Cert.ReferenceIdeal.Value.refTop l = Cert.KernelIdeal.Value.G6 m c := by
  intro l
  refine rows_eq (Cert.KernelIdeal.Value.launchRow m c) _ _ _ _ _ _ (fun r => ?_) (fun r => Cert.KernelIdeal.Value.kernel_rows m c r)
  have h := Cert.ReferenceIdeal.Value.ref_rows l r
  rw [Cert.ReferenceIdeal.Value.rowOf_logits] at h
  exact h

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Agree
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The reference's frame: its arguments end unchanged and no counter exists to be left raised. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- From memories that agree on the arguments, the kernel and the reference end with equal results. -/
theorem results_agree : Cert.algebraic_KernelIdeal_ReferenceIdeal := fun m ρ m' ρ' _ hargs =>
  ⟨fun c => Cert.KernelIdeal.Value.G4 m c, fun c => Cert.KernelIdeal.Value.G5 m c, fun c => Cert.KernelIdeal.Value.G6 m c,
    Cert.KernelIdeal.Value.run (F := Ideal) m ρ,
    (θ_run Cert.ReferenceIdeal.defs _ _).mono (fun r h c => by
        obtain ⟨a0, a1, a2, a3⟩ := hargs c
        obtain ⟨h0, h1, h2, hr⟩ := h c
        have e := Cert.Agree.results_eq m c
        rw [← a0, ← a1, ← a2, ← a3] at e
        exact ⟨h0.trans e.1, h1.trans e.2.1, h2.trans e.2.2, hr⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, ⟨IdealRules.bf16_pair.packStatement _, IdealRules.bf16_pair.statement _ _⟩, results_agree⟩

end Cert.Proof

end
